-- ==== Defs.lean ====
def Pre_Kernel [hPre_pi_rolled_by_1_Kernel : Cert.Pre_pi_rolled_by_1_Kernel.Facts] (m : (ℓ : Loc Cert.Kernel.nD Cert.Kernel.τ Cert.Kernel.sig) → Buf (Elt Bits) ℓ) : Prop :=
  ∀ c : Dev Cert.Kernel.nD,
    (Cert.Pre_pi_rolled_by_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_rolled_by_2_Kernel [hPre_pi_rolled_by_2_Kernel : Cert.Pre_pi_rolled_by_2_Kernel.Facts] (m : (ℓ : Loc Cert.Kernel.nD Cert.Kernel.τ Cert.Kernel.sig) → Buf (Elt Bits) ℓ) : Prop :=
  ∀ c : Dev Cert.Kernel.nD,
    (Cert.Pre_pi_rolled_by_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_rolled_by_3_Kernel [hPre_pi_rolled_by_3_Kernel : Cert.Pre_pi_rolled_by_3_Kernel.Facts] (m : (ℓ : Loc Cert.Kernel.nD Cert.Kernel.τ Cert.Kernel.sig) → Buf (Elt Bits) ℓ) : Prop :=
  ∀ c : Dev Cert.Kernel.nD,
    (Cert.Pre_pi_rolled_by_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_rolled_by_1_Kernel : Cert.Pre_pi_rolled_by_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_rolled_by_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_rolled_by_2_Kernel [hPre_pi_rolled_by_2_Kernel : Cert.Pre_pi_rolled_by_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_rolled_by_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_rolled_by_3_Kernel [hPre_pi_rolled_by_3_Kernel : Cert.Pre_pi_rolled_by_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_rolled_by_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_rolled_by_1_ReferenceIdeal [hPre_pi_rolled_by_1_ReferenceIdeal : Cert.Pre_pi_rolled_by_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_rolled_by_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_rolled_by_2_ReferenceIdeal [hPre_pi_rolled_by_2_ReferenceIdeal : Cert.Pre_pi_rolled_by_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_rolled_by_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_rolled_by_3_ReferenceIdeal [hPre_pi_rolled_by_3_ReferenceIdeal : Cert.Pre_pi_rolled_by_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_rolled_by_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_rolled_by_1_Kernel : Cert.Pre_pi_rolled_by_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_rolled_by_2_Kernel [hKernel : Cert.Kernel.Facts] [hPre_pi_rolled_by_2_Kernel : Cert.Pre_pi_rolled_by_2_Kernel.Facts] : Prop :=
  ∀ (m : (ℓ : Loc Cert.Kernel.nD Cert.Kernel.τ Cert.Kernel.sig) → Buf (Elt Bits) ℓ) (g : Dev Cert.Kernel.nD → PrngReg), Pre_Kernel_pi_rolled_by_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_rolled_by_3_Kernel [hKernel : Cert.Kernel.Facts] [hPre_pi_rolled_by_3_Kernel : Cert.Pre_pi_rolled_by_3_Kernel.Facts] : Prop :=
  ∀ (m : (ℓ : Loc Cert.Kernel.nD Cert.Kernel.τ Cert.Kernel.sig) → Buf (Elt Bits) ℓ) (g : Dev Cert.Kernel.nD → PrngReg), Pre_Kernel_pi_rolled_by_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_rolled_by_1_Kernel : Cert.Pre_pi_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_rolled_by_2_Kernel [hKernelIdeal : Cert.KernelIdeal.Facts] [hPre_pi_rolled_by_2_Kernel : Cert.Pre_pi_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_rolled_by_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_rolled_by_3_Kernel [hKernelIdeal : Cert.KernelIdeal.Facts] [hPre_pi_rolled_by_3_Kernel : Cert.Pre_pi_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_rolled_by_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_rolled_by_1_ReferenceIdeal [hReferenceIdeal : Cert.ReferenceIdeal.Facts] [hPre_pi_rolled_by_1_ReferenceIdeal : Cert.Pre_pi_rolled_by_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_rolled_by_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_rolled_by_2_ReferenceIdeal [hReferenceIdeal : Cert.ReferenceIdeal.Facts] [hPre_pi_rolled_by_2_ReferenceIdeal : Cert.Pre_pi_rolled_by_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_rolled_by_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_rolled_by_3_ReferenceIdeal [hReferenceIdeal : Cert.ReferenceIdeal.Facts] [hPre_pi_rolled_by_3_ReferenceIdeal : Cert.Pre_pi_rolled_by_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_rolled_by_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_rolled_by_1_Kernel : Cert.Pre_pi_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_rolled_by_2_Kernel [hKernelIdeal : Cert.KernelIdeal.Facts] [hReferenceIdeal : Cert.ReferenceIdeal.Facts] [hPre_pi_rolled_by_2_Kernel : Cert.Pre_pi_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_rolled_by_2_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_rolled_by_3_Kernel [hKernelIdeal : Cert.KernelIdeal.Facts] [hReferenceIdeal : Cert.ReferenceIdeal.Facts] [hPre_pi_rolled_by_3_Kernel : Cert.Pre_pi_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_rolled_by_3_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_rolled_by_1_Kernel : Cert.Pre_pi_rolled_by_1_Kernel.Facts) (hPre_pi_rolled_by_2_Kernel : Cert.Pre_pi_rolled_by_2_Kernel.Facts) (hPre_pi_rolled_by_3_Kernel : Cert.Pre_pi_rolled_by_3_Kernel.Facts) (hPre_pi_rolled_by_1_ReferenceIdeal : Cert.Pre_pi_rolled_by_1_ReferenceIdeal.Facts) (hPre_pi_rolled_by_2_ReferenceIdeal : Cert.Pre_pi_rolled_by_2_ReferenceIdeal.Facts) (hPre_pi_rolled_by_3_ReferenceIdeal : Cert.Pre_pi_rolled_by_3_ReferenceIdeal.Facts),
    quiescent_Kernel (hKernel := hKernel) (hPre_pi_rolled_by_1_Kernel := hPre_pi_rolled_by_1_Kernel)
    ∧ quiescent_Kernel_pre_pi_rolled_by_2_Kernel (hKernel := hKernel) (hPre_pi_rolled_by_2_Kernel := hPre_pi_rolled_by_2_Kernel)
    ∧ quiescent_Kernel_pre_pi_rolled_by_3_Kernel (hKernel := hKernel) (hPre_pi_rolled_by_3_Kernel := hPre_pi_rolled_by_3_Kernel)
    ∧ quiescent_KernelIdeal (hKernelIdeal := hKernelIdeal) (hPre_pi_rolled_by_1_Kernel := hPre_pi_rolled_by_1_Kernel)
    ∧ quiescent_KernelIdeal_pre_pi_rolled_by_2_Kernel (hKernelIdeal := hKernelIdeal) (hPre_pi_rolled_by_2_Kernel := hPre_pi_rolled_by_2_Kernel)
    ∧ quiescent_KernelIdeal_pre_pi_rolled_by_3_Kernel (hKernelIdeal := hKernelIdeal) (hPre_pi_rolled_by_3_Kernel := hPre_pi_rolled_by_3_Kernel)
    ∧ quiescent_ReferenceIdeal (hReferenceIdeal := hReferenceIdeal)
    ∧ quiescent_ReferenceIdeal_pre_pi_rolled_by_1_ReferenceIdeal (hReferenceIdeal := hReferenceIdeal) (hPre_pi_rolled_by_1_ReferenceIdeal := hPre_pi_rolled_by_1_ReferenceIdeal)
    ∧ quiescent_ReferenceIdeal_pre_pi_rolled_by_2_ReferenceIdeal (hReferenceIdeal := hReferenceIdeal) (hPre_pi_rolled_by_2_ReferenceIdeal := hPre_pi_rolled_by_2_ReferenceIdeal)
    ∧ quiescent_ReferenceIdeal_pre_pi_rolled_by_3_ReferenceIdeal (hReferenceIdeal := hReferenceIdeal) (hPre_pi_rolled_by_3_ReferenceIdeal := hPre_pi_rolled_by_3_ReferenceIdeal)
    ∧ preserves_Kernel_KernelIdeal
    ∧ algebraic_KernelIdeal_ReferenceIdeal (hKernelIdeal := hKernelIdeal) (hReferenceIdeal := hReferenceIdeal) (hPre_pi_rolled_by_1_Kernel := hPre_pi_rolled_by_1_Kernel)
    ∧ algebraic_KernelIdeal_ReferenceIdeal_pre_pi_rolled_by_2_Kernel (hKernelIdeal := hKernelIdeal) (hReferenceIdeal := hReferenceIdeal) (hPre_pi_rolled_by_2_Kernel := hPre_pi_rolled_by_2_Kernel)
    ∧ algebraic_KernelIdeal_ReferenceIdeal_pre_pi_rolled_by_3_Kernel (hKernelIdeal := hKernelIdeal) (hReferenceIdeal := hReferenceIdeal) (hPre_pi_rolled_by_3_Kernel := hPre_pi_rolled_by_3_Kernel)
-- ==== Pre_pi_rolled_by_1_Kernel.lean ====
abbrev S1x512x512 : Shape := ⟨3, ![1, 512, 512]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S1x512x512 .f32) (main_arg1 : IVec S4 32) : IVec S4 1 :=
  let main_v0 : IVec S4 32 := iotaInDim S4 32 0
  let main_c : IVec S_ 32 := constantI S_ 32 3#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Pre_pi_rolled_by_1_ReferenceIdeal.lean ====
abbrev S4x512x512 : Shape := ⟨3, ![4, 512, 512]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x512x512 .f32) (main_arg1 : IVec S4 32) : IVec S4 1 :=
  let main_v0 : IVec S4 32 := iotaInDim S4 32 0
  let main_c : IVec S_ 32 := constantI S_ 32 3#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Pre_pi_rolled_by_2_Kernel.lean ====
abbrev S1x512x512 : Shape := ⟨3, ![1, 512, 512]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S1x512x512 .f32) (main_arg1 : IVec S4 32) : IVec S4 1 :=
  let main_v0 : IVec S4 32 := iotaInDim S4 32 0
  let main_c : IVec S_ 32 := constantI S_ 32 2#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Pre_pi_rolled_by_2_ReferenceIdeal.lean ====
abbrev S4x512x512 : Shape := ⟨3, ![4, 512, 512]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x512x512 .f32) (main_arg1 : IVec S4 32) : IVec S4 1 :=
  let main_v0 : IVec S4 32 := iotaInDim S4 32 0
  let main_c : IVec S_ 32 := constantI S_ 32 2#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Pre_pi_rolled_by_3_Kernel.lean ====
abbrev S1x512x512 : Shape := ⟨3, ![1, 512, 512]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S1x512x512 .f32) (main_arg1 : IVec S4 32) : IVec S4 1 :=
  let main_v0 : IVec S4 32 := iotaInDim S4 32 0
  let main_c : IVec S_ 32 := constantI S_ 32 1#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Pre_pi_rolled_by_3_ReferenceIdeal.lean ====
abbrev S4x512x512 : Shape := ⟨3, ![4, 512, 512]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x512x512 .f32) (main_arg1 : IVec S4 32) : IVec S4 1 :=
  let main_v0 : IVec S4 32 := iotaInDim S4 32 0
  let main_c : IVec S_ 32 := constantI S_ 32 1#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Kernel.lean ====
abbrev S1x512x512 : Shape := ⟨3, ![1, 512, 512]⟩
abbrev S4 : Shape := ⟨1, ![4]⟩
abbrev S1x512 : Shape := ⟨2, ![1, 512]⟩
abbrev S1 : Shape := ⟨1, ![1]⟩
abbrev S_ : Shape := ⟨0, ![]⟩
abbrev S1x128x512 : Shape := ⟨3, ![1, 128, 512]⟩
abbrev S1x128 : Shape := ⟨2, ![1, 128]⟩
abbrev S1x128x1 : Shape := ⟨3, ![1, 128, 1]⟩

abbrev nBuf : Space → Nat
  | .hbm => 3
  | .vmem => 6
  | .smem => 1
  | _ => 0

abbrev bufTy : (tb : Table) → Fin (tcTables nBuf tb) → BufTy
  | .hbm, ⟨0, _⟩ => ⟨S1x512x512, .f32⟩
  | .hbm, ⟨1, _⟩ => ⟨S4, .i32⟩
  | .hbm, ⟨2, _⟩ => ⟨S1x512x512, .bf16⟩
  | .local _ .vmem, ⟨0, _⟩ => ⟨S1x512x512, .f32⟩
  | .local _ .vmem, ⟨1, _⟩ => ⟨S1x512x512, .bf16⟩
  | .local _ .vmem, ⟨2, _⟩ => ⟨S1x512x512, .i8⟩
  | .local _ .vmem, ⟨3, _⟩ => ⟨S1x512, .f32⟩
  | .local _ .vmem, ⟨4, _⟩ => ⟨S1x512x512, .i8⟩
  | .local _ .vmem, ⟨5, _⟩ => ⟨S1x512, .f32⟩
  | .local _ .smem, ⟨0, _⟩ => ⟨S4, .i32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v10 : BitVec 32) : Nat :=
  let c0_i32_7 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_6 : BitVec 32 := 16#32
  let v24 : BitVec 32 := Scalar.muli v2 c16_i32_6
  let v25 : BitVec 32 := Scalar.addi c0_i32_7 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v26 : BitVec 32 := Scalar.muli v5 c4_i32_8
  let v27 : BitVec 32 := Scalar.addi v25 v26
  let c1_i32_9 : BitVec 32 := 1#32
  let v28 : BitVec 32 := Scalar.muli v10 c1_i32_9
  let v29 : BitVec 32 := Scalar.addi v27 v28
  v29.toNat

def k0_dev2 (d0 : Dev nD) (v11 : BitVec 32) (v14 : BitVec 32) (v17 : BitVec 32) (v20 : BitVec 32) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v30 : BitVec 32 := Scalar.muli v2 c16_i32_11
  let v31 : BitVec 32 := Scalar.addi c0_i32_12 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v32 : BitVec 32 := Scalar.muli v5 c4_i32_13
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v21 : BitVec 1 := Scalar.cmpi .eq v20 v8
  let c3_i32 : BitVec 32 := 3#32
  let v18 : BitVec 1 := Scalar.cmpi .eq v17 v8
  let c2_i32_4 : BitVec 32 := 2#32
  let v15 : BitVec 1 := Scalar.cmpi .eq v14 v8
  let c1_i32_3 : BitVec 32 := 1#32
  let v12 : BitVec 1 := Scalar.cmpi .eq v11 v8
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c1_i32_14 : BitVec 32 := 1#32
  let v34 : BitVec 32 := Scalar.muli v22 c1_i32_14
  let v35 : BitVec 32 := Scalar.addi v33 v34
  v35.toNat

def k0_chk2 (d0 : Dev nD) (v11 : BitVec 32) (v14 : BitVec 32) (v17 : BitVec 32) (v20 : BitVec 32) : Prop :=
  ((k0_dev2 d0 v11 v14 v17 v20) < nD)
theorem k0_dev2_lt : ∀ (d0 : Dev nD) (v11 : BitVec 32) (v14 : BitVec 32) (v17 : BitVec 32) (v20 : BitVec 32) (k0_hw2 : k0_chk2 d0 v11 v14 v17 v20), (k0_dev2 d0 v11 v14 v17 v20) < nD := fun d0 v11 v14 v17 v20 k0_hw2 => k0_hw2

def k0_dev3 (d0 : Dev nD) (v10 : BitVec 32) : Nat :=
  let c0_i32_30 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_29 : BitVec 32 := 16#32
  let v57 : BitVec 32 := Scalar.muli v2 c16_i32_29
  let v58 : BitVec 32 := Scalar.addi c0_i32_30 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v59 : BitVec 32 := Scalar.muli v5 c4_i32_31
  let v60 : BitVec 32 := Scalar.addi v58 v59
  let c1_i32_32 : BitVec 32 := 1#32
  let v61 : BitVec 32 := Scalar.muli v10 c1_i32_32
  let v62 : BitVec 32 := Scalar.addi v60 v61
  v62.toNat
def k0_dev4 (d0 : Dev nD) (v10 : BitVec 32) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v69 : BitVec 32 := Scalar.muli v2 c16_i32_41
  let v70 : BitVec 32 := Scalar.addi c0_i32_42 v69
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v71 : BitVec 32 := Scalar.muli v5 c4_i32_43
  let v72 : BitVec 32 := Scalar.addi v70 v71
  let c1_i32_44 : BitVec 32 := 1#32
  let v73 : BitVec 32 := Scalar.muli v10 c1_i32_44
  let v74 : BitVec 32 := Scalar.addi v72 v73
  v74.toNat
def k0_dev5 (d0 : Dev nD) (v10 : BitVec 32) : Nat :=
  let c0_i32_63 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_62 : BitVec 32 := 16#32
  let v102 : BitVec 32 := Scalar.muli v2 c16_i32_62
  let v103 : BitVec 32 := Scalar.addi c0_i32_63 v102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_64 : BitVec 32 := 4#32
  let v104 : BitVec 32 := Scalar.muli v5 c4_i32_64
  let v105 : BitVec 32 := Scalar.addi v103 v104
  let c1_i32_65 : BitVec 32 := 1#32
  let v106 : BitVec 32 := Scalar.muli v10 c1_i32_65
  let v107 : BitVec 32 := Scalar.addi v105 v106
  v107.toNat
def k0_dev6 (d0 : Dev nD) (v10 : BitVec 32) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v114 : BitVec 32 := Scalar.muli v2 c16_i32_73
  let v115 : BitVec 32 := Scalar.addi c0_i32_74 v114
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_75 : BitVec 32 := 4#32
  let v116 : BitVec 32 := Scalar.muli v5 c4_i32_75
  let v117 : BitVec 32 := Scalar.addi v115 v116
  let c1_i32_76 : BitVec 32 := 1#32
  let v118 : BitVec 32 := Scalar.muli v10 c1_i32_76
  let v119 : BitVec 32 := Scalar.addi v117 v118
  v119.toNat
def k0_dev7 (d0 : Dev nD) (v10 : BitVec 32) : Nat :=
  let c0_i32_95 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_94 : BitVec 32 := 16#32
  let v147 : BitVec 32 := Scalar.muli v2 c16_i32_94
  let v148 : BitVec 32 := Scalar.addi c0_i32_95 v147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_96 : BitVec 32 := 4#32
  let v149 : BitVec 32 := Scalar.muli v5 c4_i32_96
  let v150 : BitVec 32 := Scalar.addi v148 v149
  let c1_i32_97 : BitVec 32 := 1#32
  let v151 : BitVec 32 := Scalar.muli v10 c1_i32_97
  let v152 : BitVec 32 := Scalar.addi v150 v151
  v152.toNat
def k0_dev8 (d0 : Dev nD) (v10 : BitVec 32) : Nat :=
  let c0_i32_106 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_105 : BitVec 32 := 16#32
  let v159 : BitVec 32 := Scalar.muli v2 c16_i32_105
  let v160 : BitVec 32 := Scalar.addi c0_i32_106 v159
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_107 : BitVec 32 := 4#32
  let v161 : BitVec 32 := Scalar.muli v5 c4_i32_107
  let v162 : BitVec 32 := Scalar.addi v160 v161
  let c1_i32_108 : BitVec 32 := 1#32
  let v163 : BitVec 32 := Scalar.muli v10 c1_i32_108
  let v164 : BitVec 32 := Scalar.addi v162 v163
  v164.toNat
def k0_dev9 (d0 : Dev nD) (v10 : BitVec 32) : Nat :=
  let c0_i32_127 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_126 : BitVec 32 := 16#32
  let v192 : BitVec 32 := Scalar.muli v2 c16_i32_126
  let v193 : BitVec 32 := Scalar.addi c0_i32_127 v192
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_128 : BitVec 32 := 4#32
  let v194 : BitVec 32 := Scalar.muli v5 c4_i32_128
  let v195 : BitVec 32 := Scalar.addi v193 v194
  let c1_i32_129 : BitVec 32 := 1#32
  let v196 : BitVec 32 := Scalar.muli v10 c1_i32_129
  let v197 : BitVec 32 := Scalar.addi v195 v196
  v197.toNat
def k0_dev10 (d0 : Dev nD) (v10 : BitVec 32) : Nat :=
  let c0_i32_138 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_137 : BitVec 32 := 16#32
  let v204 : BitVec 32 := Scalar.muli v2 c16_i32_137
  let v205 : BitVec 32 := Scalar.addi c0_i32_138 v204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_139 : BitVec 32 := 4#32
  let v206 : BitVec 32 := Scalar.muli v5 c4_i32_139
  let v207 : BitVec 32 := Scalar.addi v205 v206
  let c1_i32_140 : BitVec 32 := 1#32
  let v208 : BitVec 32 := Scalar.muli v10 c1_i32_140
  let v209 : BitVec 32 := Scalar.addi v207 v208
  v209.toNat

def k0_chk1 (d0 : Dev nD) (v10 : BitVec 32) : Prop :=
  ((k0_dev1 d0 v10) < nD) ∧
  ((k0_dev3 d0 v10) < nD) ∧
  ((k0_dev4 d0 v10) < nD) ∧
  ((k0_dev5 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev3_lt : ∀ (d0 : Dev nD) (v10 : BitVec 32) (k0_hw1 : k0_chk1 d0 v10), (k0_dev3 d0 v10) < nD := fun d0 v10 k0_hw1 => k0_hw1.2.1
theorem k0_dev4_lt : ∀ (d0 : Dev nD) (v10 : BitVec 32) (k0_hw1 : k0_chk1 d0 v10), (k0_dev4 d0 v10) < nD := fun d0 v10 k0_hw1 => k0_hw1.2.2.1
theorem k0_dev5_lt : ∀ (d0 : Dev nD) (v10 : BitVec 32) (k0_hw1 : k0_chk1 d0 v10), (k0_dev5 d0 v10) < nD := fun d0 v10 k0_hw1 => k0_hw1.2.2.2.1
theorem k0_dev6_lt : ∀ (d0 : Dev nD) (v10 : BitVec 32) (k0_hw1 : k0_chk1 d0 v10), (k0_dev6 d0 v10) < nD := fun d0 v10 k0_hw1 => k0_hw1.2.2.2.2.1
theorem k0_dev7_lt : ∀ (d0 : Dev nD) (v10 : BitVec 32) (k0_hw1 : k0_chk1 d0 v10), (k0_dev7 d0 v10) < nD := fun d0 v10 k0_hw1 => k0_hw1.2.2.2.2.2.1
theorem k0_dev8_lt : ∀ (d0 : Dev nD) (v10 : BitVec 32) (k0_hw1 : k0_chk1 d0 v10), (k0_dev8 d0 v10) < nD := fun d0 v10 k0_hw1 => k0_hw1.2.2.2.2.2.2.1
theorem k0_dev9_lt : ∀ (d0 : Dev nD) (v10 : BitVec 32) (k0_hw1 : k0_chk1 d0 v10), (k0_dev9 d0 v10) < nD := fun d0 v10 k0_hw1 => k0_hw1.2.2.2.2.2.2.2.1
theorem k0_dev10_lt : ∀ (d0 : Dev nD) (v10 : BitVec 32) (k0_hw1 : k0_chk1 d0 v10), (k0_dev10 d0 v10) < nD := fun d0 v10 k0_hw1 => k0_hw1.2.2.2.2.2.2.2.2

abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x512 : Shape := ⟨3, ![4, 512, 512]⟩
abbrev S4 : Shape := ⟨1, ![4]⟩
abbrev S_ : Shape := ⟨0, ![]⟩
abbrev S4x512 : Shape := ⟨2, ![4, 512]⟩
abbrev S4x512x1 : Shape := ⟨3, ![4, 512, 1]⟩
abbrev S4x1 : Shape := ⟨2, ![4, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4, .i32⟩
  | .hbm, ⟨2, _⟩ => ⟨S4x512x512, .f32⟩
  | .hbm, ⟨3, _⟩ => ⟨S_, .f32⟩
  | .hbm, ⟨4, _⟩ => ⟨S4x512, .f32⟩
  | .hbm, ⟨5, _⟩ => ⟨S_, .f32⟩
  | .hbm, ⟨6, _⟩ => ⟨S4x512, .f32⟩
  | .hbm, ⟨7, _⟩ => ⟨S4x512, .f32⟩
  | .hbm, ⟨8, _⟩ => ⟨S_, .f32⟩
  | .hbm, ⟨9, _⟩ => ⟨S4x512, .f32⟩
  | .hbm, ⟨10, _⟩ => ⟨S4x512, .f32⟩
  | .hbm, ⟨11, _⟩ => ⟨S4x512x1, .f32⟩
  | .hbm, ⟨12, _⟩ => ⟨S4x512x512, .f32⟩
  | .hbm, ⟨13, _⟩ => ⟨S4x512x512, .f32⟩
  | .hbm, ⟨14, _⟩ => ⟨S4x512x512, .f32⟩
  | .hbm, ⟨15, _⟩ => ⟨S4x512x512, .i32⟩
  | .hbm, ⟨16, _⟩ => ⟨S4x512x512, .i8⟩
  | .hbm, ⟨17, _⟩ => ⟨S4x512x512, .i32⟩
  | .hbm, ⟨18, _⟩ => ⟨S4x512x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S4x512x1, .f32⟩
  | .hbm, ⟨23, _⟩ => ⟨S4x512x512, .f32⟩
  | .hbm, ⟨24, _⟩ => ⟨S4x512x512, .f32⟩
  | .hbm, ⟨25, _⟩ => ⟨S4, .i32⟩
  | .hbm, ⟨26, _⟩ => ⟨S4, .i32⟩
  | .hbm, ⟨27, _⟩ => ⟨S4, .i32⟩
  | .hbm, ⟨28, _⟩ => ⟨S_, .i32⟩
  | .hbm, ⟨29, _⟩ => ⟨S4, .i32⟩
  | .hbm, ⟨30, _⟩ => ⟨S4, .i1⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S4, .i32⟩
  | .hbm, ⟨35, _⟩ => ⟨S4x1, .i32⟩
  | .hbm, ⟨36, _⟩ => ⟨S4x512x512, .f32⟩
  | .hbm, ⟨37, _⟩ => ⟨S4x512x512, .bf16⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call1_v0 : Ref sig .tc := ⟨.hbm, 25, rfl⟩
abbrev main_call1_v1_0 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.IdealMesh.lean ====
/-
# The shuffle along z: devices, tables, memrefs and cells

The kernel moves every device's block of rows to another device of the same `x` and `y`, along the axis `z` of four
devices, quantised to eight bits in four pieces of 128 rows. Where a block goes is read from a table of four words.
Here the table is the cyclic roll by `k`: word `i` is `(i + 4 - k) % 4`. This module fixes the devices that a device
sends to and receives from, the words a device reads, the pieces of the buffers, the semaphores, and what one piece
holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's share and the shuffle's rounds, whose duties are named by a Boolean -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (k : Fin 4) (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Who sends to whom -/

set_option backward.proofsInPublic true in
/-- The device that `c` sends its block to. -/
def nxt (c : Dev nD) : Dev nD := ⟨c.val / 4 * 4 + (c.val % 4 + (4 - k.val)) % 4, by have : c.val < 32 := c.isLt; show _ < 32; omega⟩
set_option backward.proofsInPublic true in
/-- The device whose block `c` receives. -/
def prv (c : Dev nD) : Dev nD := ⟨c.val / 4 * 4 + (c.val % 4 + k.val) % 4, by have : c.val < 32 := c.isLt; show _ < 32; omega⟩

theorem prv_nxt (c : Dev nD) : prv k (nxt k c) = c := by
  have hc : c.val < 32 := c.isLt
  have hk : k.val < 4 := k.isLt
  apply Fin.ext; simp only [prv, nxt]; omega
theorem nxt_prv (c : Dev nD) : nxt k (prv k c) = c := by
  have hc : c.val < 32 := c.isLt
  have hk : k.val < 4 := k.isLt
  apply Fin.ext; simp only [prv, nxt]; omega

/-- Sending as a permutation of the devices. -/
def around : Dev nD ≃ Dev nD := ⟨nxt k, prv k, prv_nxt k, nxt_prv k⟩

/-! ## The table -/

/-- Word `i` of the table of the roll by `k`. -/
def word (i : Fin 4) : BitVec 32 := BitVec.ofNat 32 ((i.val + (4 - k.val)) % 4)
/-- The position of device `c` on the axis `z`. -/
def zOf (c : Dev nD) : Fin 4 := ⟨c.val % 4, Nat.mod_lt _ (by decide)⟩
/-- Position `i` of a four-word table as an index. -/
def ix4 (i : Fin 4) : S4.Idx := fun a => ⟨i.val, by fin_cases a; exact i.isLt⟩

/-- Every device holds the table of the roll by `k`. -/
def Rolled : Prop := ∀ (c : Dev nD) (i : Fin 4), m ((c : Thread nD τ).loc main_arg1) (ix4 i) = word k i

/-- The table as the pipeline stages it on device `c`. -/
def tstg (c : Dev nD) : (cc0_stg1_0 : Ref sig .tc).ty.Contents (Elt F) :=
  (win0_1.blk (0 : Fin 1)).view.read (Elt F) ((s₀ m ρ).mem ((c : Thread nD τ).loc main_arg1))

abbrev tM : Memref sig .tc .smem S4 .i32 := Memref.whole cc0_stg1_0

/-- The word that a one-word rectangle of the staged table reads. -/
abbrev readWord (ts : (cc0_stg1_0 : Ref sig .tc).ty.Contents (Elt F)) (off : Fin 1 → ℕ) (h : ∀ a, off a + S1.size a ≤ S4.size a) : BitVec 32 :=
  ((Memref.whole cc0_stg1_0).access (Rect.unit (s := S4) off S1.size h) : View sig .tc _ _ _).read (Elt F) ts (Shape.Idx.first (s := S1) (numel1_S1.symm ▸ Nat.one_pos))

omit [FloatOps F] in
/-- Reading one word of the staged table at offset `i` gives word `i` of the roll. -/
theorem readWord_eq (hm : Rolled k m) (c : Dev nD) (off : Fin 1 → ℕ) (h : ∀ a, off a + S1.size a ≤ S4.size a) (i : Fin 4) (hi : off 0 = i.val) :
    readWord (tstg m ρ c) off h = word k i := by
  have ho : off = ![i.val] := funext fun a => by fin_cases a; exact hi
  subst ho
  rw [← hm c i]
  show m ((c : Thread nD τ).loc main_arg1) _ = _
  refine congrArg _ (funext fun a => Fin.ext ?_)
  fin_cases a; fin_cases i <;> rfl

/-! The device numbers that the kernel computes from the words it reads. -/

theorem dev1_val (c : Dev nD) : k0_dev1 c (word k (zOf c)) = (nxt k c).val := by revert k c; decide +kernel
theorem dev2_val (c : Dev nD) : k0_dev2 c (word k 0) (word k 1) (word k 2) (word k 3) = (prv k c).val := by revert k c; decide +kernel
theorem dev3_val (c : Dev nD) : k0_dev3 c (word k (zOf c)) = (nxt k c).val := dev1_val k c
theorem dev4_val (c : Dev nD) : k0_dev4 c (word k (zOf c)) = (nxt k c).val := dev1_val k c
theorem dev5_val (c : Dev nD) : k0_dev5 c (word k (zOf c)) = (nxt k c).val := dev1_val k c
theorem dev6_val (c : Dev nD) : k0_dev6 c (word k (zOf c)) = (nxt k c).val := dev1_val k c
theorem dev7_val (c : Dev nD) : k0_dev7 c (word k (zOf c)) = (nxt k c).val := dev1_val k c
theorem dev8_val (c : Dev nD) : k0_dev8 c (word k (zOf c)) = (nxt k c).val := dev1_val k c
theorem dev9_val (c : Dev nD) : k0_dev9 c (word k (zOf c)) = (nxt k c).val := dev1_val k c
theorem dev10_val (c : Dev nD) : k0_dev10 c (word k (zOf c)) = (nxt k c).val := dev1_val k c

/-- The word that `c` reads at its own position names a device in each of the nine uses. -/
theorem chk1_word (c : Dev nD) : k0_chk1 c (word k (zOf c)) := by
  have h : (nxt k c).val < nD := (nxt k c).isLt
  unfold k0_chk1
  rw [dev1_val, dev3_val, dev4_val, dev5_val, dev6_val, dev7_val, dev8_val, dev9_val, dev10_val]
  exact ⟨h, h, h, h, h, h, h, h, h⟩

/-! ## The buffers and their four pieces of 128 rows -/

abbrev xM : Memref sig .tc .vmem S1x512x512 .f32 := Memref.whole cc0_stg0_0
abbrev oM : Memref sig .tc .vmem S1x512x512 .bf16 := Memref.whole cc0_stg2_0
/-- Quantised rows to send, their scales; quantised rows received, their scales. -/
abbrev sqM : Memref sig .tc .vmem S1x512x512 .i8 := Memref.whole cc0_scratch0
abbrev ssM : Memref sig .tc .vmem S1x512 .f32 := Memref.whole cc0_scratch1
abbrev rqM : Memref sig .tc .vmem S1x512x512 .i8 := Memref.whole cc0_scratch2
abbrev rsM : Memref sig .tc .vmem S1x512 .f32 := Memref.whole cc0_scratch3

theorem inbQ (j : Fin 4) : ∀ a, (![0, 128 * j.val, 0] : Fin 3 → ℕ) a + S1x128x512.size a ≤ S1x512x512.size a := by
  revert j; decide
theorem inbS (j : Fin 4) : ∀ a, (![0, 128 * j.val] : Fin 2 → ℕ) a + S1x128.size a ≤ S1x512.size a := by
  revert j; decide
theorem inbT (j : Fin 4) : ∀ a, (![j.val] : Fin 1 → ℕ) a + S1.size a ≤ S4.size a := by
  revert j; decide

/-- Rows `128 j` to `128 j + 127` of a block, and of a block's scales. -/
abbrev rx (j : Fin 4) : Rect S1x512x512 := Rect.unit (s := S1x512x512) ![0, 128 * j.val, 0] S1x128x512.size (inbQ j)
abbrev rs (j : Fin 4) : Rect S1x512 := Rect.unit (s := S1x512) ![0, 128 * j.val] S1x128.size (inbS j)

theorem rx_disjoint (j j' : Fin 4) (h : j ≠ j') : Disjoint (rx j).set (rx j').set := by
  have h' : j.val ≠ j'.val := fun e => h (Fin.ext e)
  refine Rect.disjoint_of_axis _ _ 1 fun a ha b hb => ?_
  have ha : a < 128 := ha
  have hb : b < 128 := hb
  show 128 * j.val + 1 * a ≠ 128 * j'.val + 1 * b
  omega
theorem rs_disjoint (j j' : Fin 4) (h : j ≠ j') : Disjoint (rs j).set (rs j').set := by
  have h' : j.val ≠ j'.val := fun e => h (Fin.ext e)
  refine Rect.disjoint_of_axis _ _ 1 fun a ha b hb => ?_
  have ha : a < 128 := ha
  have hb : b < 128 := hb
  show 128 * j.val + 1 * a ≠ 128 * j'.val + 1 * b
  omega

/-- The piece that row `i 1` lies in. -/
def piece (n : Fin 512) : Fin 4 := ⟨n.val / 128, by have := n.isLt; omega⟩

theorem rx_cover : (Finset.univ : Finset (Fin 4)).biUnion (fun j => (rx j).set) = Finset.univ := by
  refine Finset.eq_univ_of_forall fun i => Finset.mem_biUnion.mpr ⟨piece (i 1), Finset.mem_univ _, Rect.mem_set_unit.mpr ?_⟩
  have h0 : (i 0).val < 1 := (i 0).isLt
  have h1 : (i 1).val < 512 := (i 1).isLt
  have h2 : (i 2).val < 512 := (i 2).isLt
  intro a
  fin_cases a
  · show 0 ≤ (i 0).val ∧ (i 0).val < 0 + 1; omega
  · show 128 * ((i 1).val / 128) ≤ (i 1).val ∧ (i 1).val < 128 * ((i 1).val / 128) + 128; omega
  · show 0 ≤ (i 2).val ∧ (i 2).val < 0 + 512; omega
theorem rs_cover : (Finset.univ : Finset (Fin 4)).biUnion (fun j => (rs j).set) = Finset.univ := by
  refine Finset.eq_univ_of_forall fun i => Finset.mem_biUnion.mpr ⟨piece (i 1), Finset.mem_univ _, Rect.mem_set_unit.mpr ?_⟩
  have h0 : (i 0).val < 1 := (i 0).isLt
  have h1 : (i 1).val < 512 := (i 1).isLt
  intro a
  fin_cases a
  · show 0 ≤ (i 0).val ∧ (i 0).val < 0 + 1; omega
  · show 128 * ((i 1).val / 128) ≤ (i 1).val ∧ (i 1).val < 128 * ((i 1).val / 128) + 128; omega

/-- Piece `j` of a buffer of rows and of a buffer of scales. -/
abbrev pq {e : EltTy} (M : Memref sig .tc .vmem S1x512x512 e) (j : Fin 4) : Memref sig .tc .vmem S1x128x512 e := M.slice (rx j) (fun _ => rfl)
abbrev ps (M : Memref sig .tc .vmem S1x512 .f32) (j : Fin 4) : Memref sig .tc .vmem S1x128 .f32 := M.slice (rs j) (fun _ => rfl)

/-! ## The semaphores -/

/-- The runtime's barrier semaphore. -/
abbrev barS : Sem sig := (SemArray.scalar (sig.barrier 0 rfl) : Sems sig S_).sem
/-- The four families: rows sent, rows received, scales sent, scales received. -/
def fam : Fin 4 → DmaSems sig S4 := fun | 0 => cc0_scratch4 | 1 => cc0_scratch5 | 2 => cc0_scratch6 | 3 => cc0_scratch7
/-- Semaphore `j` of family `f`. -/
def sm (f j : Fin 4) : DmaSem sig := ((((fam f).slice (Rect.unit (s := S4) ![j.val] S1.size (inbT j))).squeeze S_ squeezes_S1_S_ : DmaSems sig S_)).sem

/-- The semaphores of the protocol: the barrier, and sixteen of the copies. -/
abbrev CI : Type := Unit ⊕ (Fin 4 × Fin 4)
def csem : CI → SemLoc sig := fun | .inl _ => .reg barS | .inr p => .dma (sm p.1 p.2)
/-- The cell of semaphore `i` on device `c`. -/
abbrev cell (c : Dev nD) (i : CI) : GSem nD τ sig := ((c : Thread nD τ), csem i)
abbrev bar (c : Dev nD) : GSem nD τ sig := ((c : Thread nD τ), .reg barS)
abbrev dcell (c : Dev nD) (f j : Fin 4) : GSem nD τ sig := ((c : Thread nD τ), .dma (sm f j))

theorem sm_injective : ∀ f j f' j' : Fin 4, sm f j = sm f' j' → f = f' ∧ j = j' := by decide
theorem csem_injective : Function.Injective csem := by
  rintro (⟨⟩ | ⟨f, j⟩) (⟨⟩ | ⟨f', j'⟩) h
  · rfl
  · cases h
  · cases h
  · have h' : sm f j = sm f' j' := SemLoc.dma.inj h
    obtain ⟨rfl, rfl⟩ := sm_injective f j f' j' h'
    rfl
theorem cell_eq_iff {c c' : Dev nD} {i i' : CI} : Iff (cell c i = cell c' i') (c = c' ∧ i = i') :=
  ⟨fun h => ⟨Fin.ext (congrArg (fun g : GSem nD τ sig => g.1.1.val) h), csem_injective (congrArg Prod.snd h)⟩, fun ⟨h, h'⟩ => h ▸ h' ▸ rfl⟩

/-- Which semaphore of the protocol a semaphore is. -/
def which (s : SemLoc sig) : CI := Function.invFun csem s
theorem which_csem (i : CI) : which (csem i) = i := Function.leftInverse_invFun csem_injective i

/-! ## What the pieces hold -/

/-- Device `c`'s block as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))
/-- Piece `j` of it. -/
def xpiece (c : Dev nD) (j : Fin 4) : Vec F S1x128x512 .f32 := (xM.access (rx j) : View sig .tc _ _ _).read (Elt F) (xstg m ρ c)
/-- The quantised rows of a piece, the rows' scales, and the rows made again of both. -/
def quant (v : Vec F S1x128x512 .f32) : Vec F S1x128x512 .i8 := k0_pay4 v
def scale (v : Vec F S1x128x512 .f32) : Vec F S1x128 .f32 := k0_pay3 v
def dequant (q : Vec F S1x128x512 .i8) (s : Vec F S1x128 .f32) : Vec F S1x128x512 .bf16 := k0_pay18 q s
/-- Piece `j` of device `c`'s result. -/
def opiece (c : Dev nD) (j : Fin 4) : Vec F S1x128x512 .bf16 := dequant (quant (xpiece m ρ (prv k c) j)) (scale (xpiece m ρ (prv k c) j))
/-- Row `i 1` counted from the top of its piece. -/
def within (i : S1x512x512.Idx) : S1x128x512.Idx := fun
  | 0 => i 0
  | 1 => ⟨(i 1).val % 128, Nat.mod_lt _ (by decide)⟩
  | 2 => i 2
/-- Device `c`'s result, piece by piece. -/
def outAt (c : Dev nD) : (cc0_stg2_0 : Ref sig .tc).ty.Contents (Elt F) := fun i => opiece k m ρ c (piece (i 1)) (within i)

/-- The result at an index of piece `j` is what piece `j` holds there. -/
theorem outAt_emb (c : Dev nD) (j : Fin 4) (i : (rx j).shape.Idx) : outAt k m ρ c ((rx j).emb i) = opiece k m ρ c j i := by
  have hi : (i 1).val < 128 := (i 1).isLt
  have h1 : (((rx j).emb i) 1).val = 128 * j.val + 1 * (i 1).val := rfl
  unfold outAt
  have hj : piece (((rx j).emb i) 1) = j := Fin.ext (by show (((rx j).emb i) 1).val / 128 = j.val; rw [h1]; omega)
  have hw : within ((rx j).emb i) = i := by
    funext a; fin_cases a
    · exact Fin.ext (by show 0 + 1 * (i 0).val = (i 0).val; omega)
    · exact Fin.ext (by show (((rx j).emb i) 1).val % 128 = (i 1).val; rw [h1]; omega)
    · exact Fin.ext (by show 0 + 1 * (i 2).val = (i 2).val; omega)
  rw [hj, hw]

end Cert.KernelIdeal.Shuffle

end
-- ==== Proof.IdealTable.lean ====
/-
# The tables that the preconditions name

Each of the three preconditions compares the table, word by word, with the roll of `0 1 2 3` by one, two or three
places. Here each is read at one position, and gives the word that stands there.
-/
module

public import proofs.«01_k».proof.Defs
public import proofs.«01_k».proof.Proof.IdealMesh

@[expose] public section

noncomputable section

namespace Cert.KernelIdeal.Shuffle

open Cert.KernelIdeal Cert.KernelIdeal.Gen
open Idealize.ShloMosaic Idealize.ShloMosaic.TcCoe

variable {F : FTy → Type} [FloatOps F]

/-- Position `i` plus `4 - k`, reduced modulo four as the predicate reduces it, is word `i` of the roll by `k`. -/
theorem rem_word (k i : Fin 4) : IntOp.remsi .host (BitVec.ofNat 32 i.val + BitVec.ofNat 32 (4 - k.val)) 4#32 = word k i := by
  revert k i; decide

/-- A table that satisfies the predicate of the roll by one is that roll. -/
theorem rolled_1 [Cert.Pre_pi_rolled_by_1_Kernel.Facts] (x : FVec F S1x512x512 .f32) (t : IVec S4 32)
    (h : Cert.Pre_pi_rolled_by_1_Kernel.fn (F := F) x t = fun _ => 1#1) (i : Fin 4) : t (ix4 i) = word 1 i := by
  have e : IntOp.cmpi .eq (t (ix4 i)) (IntOp.remsi .host (BitVec.ofNat 32 i.val + 3#32) 4#32) = 1#1 := congrFun h (ix4 i)
  rw [← rem_word 1 i]
  have hb : ∀ p : Bool, BitVec.ofBool p = 1#1 → p = true := by decide
  exact eq_of_beq (hb _ e)

/-- A table that satisfies the predicate of the roll by two is that roll. -/
theorem rolled_2 [Cert.Pre_pi_rolled_by_2_Kernel.Facts] (x : FVec F S1x512x512 .f32) (t : IVec S4 32)
    (h : Cert.Pre_pi_rolled_by_2_Kernel.fn (F := F) x t = fun _ => 1#1) (i : Fin 4) : t (ix4 i) = word 2 i := by
  have e : IntOp.cmpi .eq (t (ix4 i)) (IntOp.remsi .host (BitVec.ofNat 32 i.val + 2#32) 4#32) = 1#1 := congrFun h (ix4 i)
  rw [← rem_word 2 i]
  have hb : ∀ p : Bool, BitVec.ofBool p = 1#1 → p = true := by decide
  exact eq_of_beq (hb _ e)

/-- A table that satisfies the predicate of the roll by three is that roll. -/
theorem rolled_3 [Cert.Pre_pi_rolled_by_3_Kernel.Facts] (x : FVec F S1x512x512 .f32) (t : IVec S4 32)
    (h : Cert.Pre_pi_rolled_by_3_Kernel.fn (F := F) x t = fun _ => 1#1) (i : Fin 4) : t (ix4 i) = word 3 i := by
  have e : IntOp.cmpi .eq (t (ix4 i)) (IntOp.remsi .host (BitVec.ofNat 32 i.val + 1#32) 4#32) = 1#1 := congrFun h (ix4 i)
  rw [← rem_word 3 i]
  have hb : ∀ p : Bool, BitVec.ofBool p = 1#1 → p = true := by decide
  exact eq_of_beq (hb _ e)

end Cert.KernelIdeal.Shuffle

end
-- ==== Proof.IdealRounds.lean ====
/-
# The shuffle's protocol: duties, payloads, debts and levels

Every cell has one round. A device's barrier cell has two duties of one unit: `false`, paid by the device that sends to
it and handing over nothing, and `true`, paid by the device that it sends to and handing over that device's two receive
buffers. A receive cell of piece `j` has one duty, paid by the copy of piece `j` of the sending device, and hands over
the piece of the receive buffer holding what was sent. A send cell has one duty, paid by the device's own copy, and hands
the piece of the send buffer back.
-/
module

public import proofs.«01_k».proof.Proof.IdealMesh

@[expose] public section

noncomputable section

namespace Cert.KernelIdeal.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (k : Fin 4) (m : (ℓ : Loc nD τ sig) → Buf (Elt F) ℓ) (ρ : Dev nD → PrngReg)

/-! ## Buffers held at some contents -/

/-- Device `d` owns the elements of `M`, whatever they hold. -/
def hold (d : Dev nD) {sh : Shape} {e : EltTy} (M : Memref sig .tc .vmem sh e) : sProp 𝕄 :=
  iprop(∃ f : Buf (Elt F) (M.view.loc (d : Thread nD τ)), M.view.loc (d : Thread nD τ) ↦[M.view.set]{fullShare} f)

omit [FloatOps F] in
instance hold_storable (d : Dev nD) {sh : Shape} {e : EltTy} (M : Memref sig .tc .vmem sh e) :
    BI.Storable (upEmb : UEmb _ 𝕄) (hold (F := F) d M) := by unfold hold; infer_instance

omit [FloatOps F] in
theorem hold_of_owns (d : Dev nD) {sh : Shape} {e : EltTy} (M : Memref sig .tc .vmem sh e) (X : sh.Idx → Elt F e) :
    (owns (d : Thread nD τ) M fullShare X : sProp 𝕄) ⊢ hold d M := by
  unfold owns hold
  iintro ⟨%f, -, H⟩
  iexists f; iexact H

omit [FloatOps F] in
/-- A buffer held is its pieces held, for a family of disjoint pieces that covers it; -/
theorem hold_split (d : Dev nD) {sh : Shape} {e : EltTy} (M : Memref sig .tc .vmem sh e) (r : Fin 4 → Rect sh)
    (hr : ∀ t a, (r t).stride a = 1) (hd : ∀ t t', t ≠ t' → Disjoint (r t).set (r t').set)
    (hcov : (Finset.univ : Finset (Fin 4)).biUnion (fun t => (r t).set) = Finset.univ) :
    (hold d M : sProp 𝕄) ⊢ bigSep Finset.univ fun j => hold d (M.slice (r j) (hr j)) := by
  unfold hold
  iintro ⟨%f, H⟩
  ihave H' := (Entails.of_eq (pointsTo_rects (d : Thread nD τ) M fullShare r hr hd hcov f)) $$ H
  have h : (bigSep Finset.univ fun j : Fin 4 => owns (d : Thread nD τ) (M.slice (r j) (hr j)) fullShare (fun i => M.view.read (Elt F) f ((r j).emb i)) : sProp 𝕄)
      ⊢ bigSep Finset.univ fun j => hold d (M.slice (r j) (hr j)) := bigSep_mono fun j _ => hold_of_owns d (M.slice (r j) (hr j)) _
  iapply h
  iexact H'

/-- and pieces held join to the buffer held. -/
theorem hold_join (d : Dev nD) {sh : Shape} {e : EltTy} (M : Memref sig .tc .vmem sh e) (r : Fin 4 → Rect sh)
    (hr : ∀ t a, (r t).stride a = 1) (hd : ∀ t t', t ≠ t' → Disjoint (r t).set (r t').set)
    (hcov : (Finset.univ : Finset (Fin 4)).biUnion (fun t => (r t).set) = Finset.univ) :
    (bigSep Finset.univ fun j => hold d (M.slice (r j) (hr j)) : sProp 𝕄) ⊢ hold d M := by
  haveI : ∀ e, Nonempty (Elt F e) := fun e => inferInstance
  haveI : Nonempty (Buf (Elt F) (M.view.loc (d : Thread nD τ))) := ⟨fun _ => Classical.arbitrary _⟩
  unfold hold
  iintro H
  ihave H1 := (BI.bigSep_exists_pi Finset.univ (fun (j : Fin 4) (f : Buf (Elt F) (M.view.loc (d : Thread nD τ))) =>
    (M.view.loc (d : Thread nD τ) ↦[(M.view.slice (r j)).set]{fullShare} f : sProp 𝕄))) $$ H
  icases H1 with ⟨%fs, H⟩
  ihave H2 := (pointsTo_biUnion_join (q := fullShare) Finset.univ (fun j : Fin 4 => (M.view.slice (r j)).set) fs (fs 0)
    (fun t _ t' _ h => by rw [View.set_slice, View.set_slice]; exact (Finset.disjoint_map _).mpr (hd t t' h))) $$ H
  icases H2 with ⟨%g, -, H⟩
  iexists g
  have hset : (Finset.univ : Finset (Fin 4)).biUnion (fun j => (M.view.slice (r j)).set) = M.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ _, by rw [View.set_slice]; exact Finset.mem_map_of_mem _ hx⟩
  rw [← hset]
  iexact H

/-! ## The schedule -/

/-- What one piece's rows, and its scales, credit a semaphore with. -/
abbrev NQ : ℕ := (pq rqM 0).view.dmaCredit
abbrev NS : ℕ := (ps rsM 0).view.dmaCredit
theorem NQ_pos : 0 < NQ := View.dmaCredit_pos _ (by decide)
theorem NS_pos : 0 < NS := View.dmaCredit_pos _ (by decide)

/-- What the device that `c` sends to hands `c` at the barrier: its two receive buffers. -/
def barPay (c : Dev nD) : sProp 𝕄 := iprop(hold (nxt k c) rqM ∗ hold (nxt k c) rsM)

/-- What each cell's duty hands over. -/
def pay (c : Dev nD) : CI → Bool → sProp 𝕄
  | .inl _, true => barPay k c
  | .inl _, false => iprop(emp)
  | .inr (0, j), _ => hold c (pq sqM j)
  | .inr (1, j), _ => owns (c : Thread nD τ) (pq rqM j) fullShare (quant (xpiece m ρ (prv k c) j))
  | .inr (2, j), _ => hold c (ps ssM j)
  | .inr (3, j), _ => owns (c : Thread nD τ) (ps rsM j) fullShare (scale (xpiece m ρ (prv k c) j))
/-- How much each cell's duty raises it by. -/
def amt : CI → ℕ
  | .inl _ => 1
  | .inr (0, _) => NQ
  | .inr (1, _) => NQ
  | .inr (2, _) => NS
  | .inr (3, _) => NS
theorem amt_pos (i : CI) : 0 < amt i := by
  rcases i with _ | ⟨f, j⟩
  · exact Nat.one_pos
  · fin_cases f
    · exact NQ_pos
    · exact NQ_pos
    · exact NS_pos
    · exact NS_pos
/-- The duties of a cell's one round. -/
def dut : CI → Finset Bool
  | .inl _ => Finset.univ
  | .inr _ => {false}

open scoped Classical in
/-- The schedule: round 0 of every cell of the protocol, and nothing after it. -/
def Rd : Rounds.Schedule (GSem nD τ sig) Bool 𝕄 where
  duties g r := if r = 0 ∧ g.1.2 = .tc ∧ (∃ i, csem i = g.2) then dut (which g.2) else ∅
  unitless _ := False
  amount g _ _ := amt (which g.2)
  payload g _ d := pay k m ρ g.1.1 (which g.2) d
  amount_pos g _ _ _ := amt_pos _

instance Rd_payload_storable (g : GSem nD τ sig) (r : ℕ) (d : Bool) :
    BI.Storable (upEmb : UEmb _ 𝕄) ((Rd (F := F) k m ρ).payload g r d) := by
  show BI.Storable upEmb (pay k m ρ g.1.1 (which g.2) d)
  generalize which g.2 = i
  rcases i with _ | ⟨f, j⟩
  · cases d
    · show BI.Storable upEmb iprop(emp); infer_instance
    · show BI.Storable upEmb (barPay k g.1.1); unfold barPay; infer_instance
  · fin_cases f
    · show BI.Storable upEmb (hold g.1.1 (pq sqM j)); infer_instance
    · show BI.Storable upEmb (owns (g.1.1 : Thread nD τ) (pq rqM j) fullShare (quant (xpiece m ρ (prv k g.1.1) j))); infer_instance
    · show BI.Storable upEmb (hold g.1.1 (ps ssM j)); infer_instance
    · show BI.Storable upEmb (owns (g.1.1 : Thread nD τ) (ps rsM j) fullShare (scale (xpiece m ρ (prv k g.1.1) j))); infer_instance

theorem duties_cell (c : Dev nD) (i : CI) : (Rd (F := F) k m ρ).duties (cell c i) 0 = dut i := by
  dsimp only [Rd]
  rw [if_pos ⟨rfl, rfl, i, rfl⟩, which_csem]
theorem duties_later (g : GSem nD τ sig) : ∀ r, 1 ≤ r → (Rd (F := F) k m ρ).duties g r = ∅ :=
  fun r hr => by dsimp only [Rd]; exact if_neg fun h => by omega
theorem amount_cell (c : Dev nD) (i : CI) (d : Bool) : (Rd (F := F) k m ρ).amount (cell c i) 0 d = amt i := by
  dsimp only [Rd]; rw [which_csem]
theorem payload_cell (c : Dev nD) (i : CI) (d : Bool) : (Rd (F := F) k m ρ).payload (cell c i) 0 d = pay k m ρ c i d := by
  dsimp only [Rd]; rw [which_csem]

/-- A device waits on its barrier for two units, on a copy's semaphore for the piece's credit. -/
theorem expect_bar (c : Dev nD) : (Rd (F := F) k m ρ).expect (bar c) 0 = 2 := by
  unfold Schedule.expect Schedule.amountOf
  rw [show bar c = cell c (.inl ()) from rfl, duties_cell, Finset.sum_congr rfl fun d _ => amount_cell k m ρ c (.inl ()) d]
  decide
theorem expect_copy (c : Dev nD) (f j : Fin 4) : (Rd (F := F) k m ρ).expect (dcell c f j) 0 = amt (.inr (f, j)) := by
  unfold Schedule.expect Schedule.amountOf
  rw [show dcell c f j = cell c (.inr (f, j)) from rfl, duties_cell]
  show ∑ d ∈ ({false} : Finset Bool), _ = _
  rw [Finset.sum_singleton, amount_cell]

/-- What a wait for all of a cell's round hands over. -/
theorem rest_bar (c : Dev nD) :
    bigSep ((Rd (F := F) k m ρ).duties (bar c) 0 \ ∅) (fun d => (Rd (F := F) k m ρ).payload (bar c) 0 d) = iprop(emp ∗ barPay k c) := by
  rw [Finset.sdiff_empty, show bar c = cell c (.inl ()) from rfl, duties_cell, bigSep_congr fun d _ => payload_cell k m ρ c (.inl ()) d]
  show bigSep Finset.univ _ = _
  rw [bigSep_univ_eq_bigSepL [false, true] (by decide) (by decide), bigSepL_cons_cons, bigSepL_singleton]
  rfl
theorem rest_copy (c : Dev nD) (f j : Fin 4) :
    bigSep ((Rd (F := F) k m ρ).duties (dcell c f j) 0 \ ∅) (fun d => (Rd (F := F) k m ρ).payload (dcell c f j) 0 d) = pay k m ρ c (.inr (f, j)) false := by
  rw [Finset.sdiff_empty, show dcell c f j = cell c (.inr (f, j)) from rfl, duties_cell]
  show bigSep ({false} : Finset Bool) _ = _
  rw [bigSep_singleton, payload_cell]

/-! ## Debts -/

/-- The debt of piece `j`: the scales' and the rows' credit of the receiving device's two cells. -/
def debt (c : Dev nD) (j : Fin 4) : CellTallies nD τ sig Unit := tallyAt (dcell (nxt k c) 3 j) () NS + tallyAt (dcell (nxt k c) 1 j) () NQ
/-- What remains owed once the pieces before the third, the second, the first, and none have been sent. -/
def O₃ (c : Dev nD) : CellTallies nD τ sig Unit := 0 + debt k c 3
def O₂ (c : Dev nD) : CellTallies nD τ sig Unit := O₃ k c + debt k c 2
def O₁ (c : Dev nD) : CellTallies nD τ sig Unit := O₂ k c + debt k c 1
def Oc (c : Dev nD) : CellTallies nD τ sig Unit := O₁ k c + debt k c 0
/-- What a device owes at launch: the copies, a unit to the barrier of the device it receives from, and one to the
    barrier of the device it sends to. -/
def Ob (c : Dev nD) : CellTallies nD τ sig Unit := Oc k c + tallyAt (bar (prv k c)) () 1
def O₀ (c : Dev nD) : CellTallies nD τ sig Unit := Ob k c + tallyAt (bar (nxt k c)) () 1

/-- A device's debt to the receive cells, at a cell. -/
theorem Oc_apply (c : Dev nD) (g : GSem nD τ sig) (u : Unit) :
    Oc k c g u = ∑ j : Fin 4, ((if g = dcell (nxt k c) 3 j then NS else 0) + (if g = dcell (nxt k c) 1 j then NQ else 0)) := by
  unfold Oc O₁ O₂ O₃ debt
  simp only [Pi.add_apply, Finsupp.add_apply, tallyAt_apply, Pi.zero_apply, Finsupp.zero_apply, and_true, Fin.sum_univ_four]
  omega

theorem Oc_pos {c : Dev nD} {g : GSem nD τ sig} {u : Unit} (h : 0 < Oc k c g u) : ∃ j, g = dcell (nxt k c) 3 j ∨ g = dcell (nxt k c) 1 j := by
  by_contra hn
  rw [not_exists] at hn
  rw [Oc_apply, Finset.sum_eq_zero fun j _ => by rw [if_neg fun e => hn j (.inl e), if_neg fun e => hn j (.inr e), Nat.add_zero]] at h
  exact Nat.lt_irrefl 0 h

theorem O₀_pos {c : Dev nD} {g : GSem nD τ sig} {u : Unit} (h : 0 < O₀ k c g u) :
    (∃ j, g = dcell (nxt k c) 3 j ∨ g = dcell (nxt k c) 1 j) ∨ g = bar (prv k c) ∨ g = bar (nxt k c) := by
  by_contra hn
  rw [not_or, not_or] at hn
  have h0 : Oc k c g u = 0 := Nat.eq_zero_of_not_pos fun h' => hn.1 (Oc_pos k h')
  unfold O₀ Ob at h
  rw [Pi.add_apply, Finsupp.add_apply, Pi.add_apply, Finsupp.add_apply, tallyAt_apply, tallyAt_apply, h0,
    if_neg (fun h' => hn.2.1 h'.1), if_neg (fun h' => hn.2.2 h'.1)] at h
  exact Nat.lt_irrefl 0 h

/-! ## Levels -/

def L (g : GSem nD τ sig) : Finset Unit := if g.1.2 = .tc then {()} else ∅
/-- Receive cells at 2, barrier cells at 1, everything else at 0. -/
def lvs : SemLoc sig → ℕ := fun s => if (∃ j, s = .dma (sm 3 j) ∨ s = .dma (sm 1 j)) then 2 else if s = .reg barS then 1 else 0
def lv (g : GSem nD τ sig) (_ : Unit) : ℕ := lvs g.2

theorem L_of_ne (g : GSem nD τ sig) (h : g.1.2 ≠ .tc) : L g = ∅ := if_neg h
theorem L_tc (c : Dev nD) (s : SemLoc sig) : L ((c : Thread nD τ), s) = {()} := if_pos rfl

theorem lvs_recv (s : SemLoc sig) (h : ∃ j, s = .dma (sm 3 j) ∨ s = .dma (sm 1 j)) : lvs s = 2 := if_pos h
theorem lvs_bar : lvs (.reg barS) = 1 := by
  unfold lvs; rw [if_neg (fun ⟨j, h⟩ => by rcases h with h | h <;> cases h), if_pos rfl]

omit [FloatOps F] in
/-- A wait on a semaphore of level 0 may be made at launch, and with nothing owed. -/
theorem mayWait_low (c : Dev nD) (q : DmaSem sig) (hq : lvs (.dma q) = 0) (O : CellTallies nD τ sig Unit) (hO : O = O₀ k c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos k hg with ⟨j, rfl | rfl⟩ | rfl | rfl <;> exact Finset.mem_singleton_self _)
      (fun p hp => by rw [Finset.mem_singleton.mp hp]; exact le_of_eq hq)
      (fun g u hg => by
        rcases O₀_pos k hg with ⟨j, rfl | rfl⟩ | rfl | rfl
        · show 0 < lvs _; rw [lvs_recv _ ⟨j, .inl rfl⟩]; decide
        · show 0 < lvs _; rw [lvs_recv _ ⟨j, .inr rfl⟩]; decide
        · show 0 < lvs _; rw [lvs_bar]; decide
        · show 0 < lvs _; rw [lvs_bar]; decide)
  · rw [MayWait_zero]; iintro -; iempintro

omit [FloatOps F] in
/-- The barrier may be waited on while the copies are owed. -/
theorem mayWait_bar (c : Dev nD) : (levAts L lv : sProp 𝕄) ⊢ MayWait (c : Thread nD τ) (.reg barS) () (Oc k c) :=
  MayOwe.of_cut (L := L) (lev := lv) 1 (fun p hp => by rw [Finset.mem_singleton.mp hp, L_tc]; exact Finset.mem_singleton_self _)
    (fun g u hg => by obtain ⟨j, rfl | rfl⟩ := Oc_pos k hg <;> exact Finset.mem_singleton_self _)
    (fun p hp => by rw [Finset.mem_singleton.mp hp]; exact le_of_eq lvs_bar)
    (fun g u hg => by
      obtain ⟨j, rfl | rfl⟩ := Oc_pos k hg
      · show 1 < lvs _; rw [lvs_recv _ ⟨j, .inl rfl⟩]; decide
      · show 1 < lvs _; rw [lvs_recv _ ⟨j, .inr rfl⟩]; decide)

/-! ## What a device starts from and ends with -/

/-- Every cell's invariant and that it is at its round 0, all over the mesh, under the names `K`. -/
def records (K : Dev nD × CI → ℕ) : sProp 𝕄 :=
  iprop((bigSep Finset.univ fun ci : Dev nD × CI => cellInv ER (Rd k m ρ) (K ci) (cell ci.1 ci.2))
    ∗ bigSep Finset.univ fun ci : Dev nD × CI => reached ER (cell ci.1 ci.2) 0)

instance records_persistent (K : Dev nD × CI → ℕ) : BI.Persistent (records k m ρ K) := by unfold records; infer_instance

theorem inv_at (K : Dev nD × CI → ℕ) (c : Dev nD) (i : CI) : (records k m ρ K : sProp 𝕄) ⊢ cellInv ER (Rd k m ρ) (K (c, i)) (cell c i) := by
  unfold records
  iintro ⟨H, -⟩
  have h : (bigSep Finset.univ fun ci : Dev nD × CI => cellInv ER (Rd k m ρ) (K ci) (cell ci.1 ci.2) : sProp 𝕄) ⊢ cellInv ER (Rd k m ρ) (K (c, i)) (cell c i) := bigSep_elim (Finset.mem_univ (c, i))
  iapply h; iexact H
theorem reached_at (K : Dev nD × CI → ℕ) (c : Dev nD) (i : CI) : (records k m ρ K : sProp 𝕄) ⊢ reached ER (cell c i) 0 := by
  unfold records
  iintro ⟨-, H⟩
  have h : (bigSep Finset.univ fun ci : Dev nD × CI => reached ER (cell ci.1 ci.2) 0 : sProp 𝕄) ⊢ reached ER (cell c i) 0 := bigSep_elim (Finset.mem_univ (c, i))
  iapply h; iexact H

/-- A device's positions on its four cells of piece `j`. -/
def poss (c : Dev nD) (j : Fin 4) : sProp 𝕄 :=
  iprop(atPos ER (dcell c 0 j) 0 ∅ 0 ∗ atPos ER (dcell c 1 j) 0 ∅ 0 ∗ atPos ER (dcell c 2 j) 0 ∅ 0 ∗ atPos ER (dcell c 3 j) 0 ∅ 0)
/-- The four duties of piece `j` that device `c`'s copies pay. -/
def pays (c : Dev nD) (j : Fin 4) : sProp 𝕄 :=
  iprop(dutyTok ER (dcell c 0 j) 0 false ∗ dutyTok ER (dcell (nxt k c) 1 j) 0 false ∗ dutyTok ER (dcell c 2 j) 0 false ∗ dutyTok ER (dcell (nxt k c) 3 j) 0 false)
/-- What is a device's alone: its positions and the duties it pays. -/
def linear (c : Dev nD) : sProp 𝕄 :=
  iprop((atPos ER (bar c) 0 ∅ 0 ∗ bigSep Finset.univ fun j => poss c j)
    ∗ dutyTok ER (bar (nxt k c)) 0 false ∗ dutyTok ER (bar (prv k c)) 0 true ∗ bigSep Finset.univ fun j => pays k c j)
/-- The credit a device is launched with. -/
def credits (c : Dev nD) : sProp 𝕄 :=
  iprop(cred (tallyAt (bar c) () 2) ∗ bigSep Finset.univ fun j => iprop(cred (tallyAt (dcell c 1 j) () NQ) ∗ cred (tallyAt (dcell c 3 j) () NS)))

def start (c : Dev nD) : sProp 𝕄 := iprop((∃ K, records k m ρ K ∗ linear k c) ∗ credits c ∗ levAts L lv)
/-- The four scratch buffers. -/
def scratch (c : Dev nD) : sProp 𝕄 := iprop(hold c sqM ∗ hold c ssM ∗ hold c rqM ∗ hold c rsM)
def Φ₀ (c : Dev nD) : sProp 𝕄 := iprop(start k m ρ c ∗ scratch c)
/-- After the run every cell of the protocol reads zero. -/
def zeros (c : Dev nD) : sProp 𝕄 :=
  iprop(semVal (bar c) 0 ∗ bigSep Finset.univ fun j => iprop(semVal (dcell c 0 j) 0 ∗ semVal (dcell c 1 j) 0 ∗ semVal (dcell c 2 j) 0 ∗ semVal (dcell c 3 j) 0))
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => outAt k m ρ c
  Φ t := match t with
    | ⟨0, _⟩ => Φ₀ k m ρ c
    | ⟨_ + 1, _⟩ => Φ₁ c
  q _ := fullShare
  owed t := match t with
    | ⟨0, _⟩ => O₀ k c
    | ⟨_ + 1, _⟩ => 0

abbrev 𝒱₀ : Variants := Variants.none

end Cert.KernelIdeal.Shuffle

end
-- ==== Proof.IdealPieces.lean ====
/-
# One piece of the shuffle, step by step

Three stretches of the kernel's body, each proved once for any piece `j`: quantising a piece and starting its two
copies; waiting for the two copies that arrive and making the rows again; and waiting for the device's own two copies to
have left.
-/
module

public import proofs.«01_k».proof.Proof.IdealRounds

@[expose] public section

noncomputable section

namespace Cert.KernelIdeal.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (k : Fin 4) (m : (ℓ : Loc nD τ sig) → Buf (Elt F) ℓ) (ρ : Dev nD → PrngReg) (K : Dev nD × CI → ℕ)

/-- The weakest precondition of a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c`'s staged block, held. -/
abbrev xHeld (c : Dev nD) : sProp 𝕄 := ((c : Thread nD τ).loc cc0_stg0_0) ↦{fullShare} xstg m ρ c

omit [FloatOps F] in
/-- A piece of a receive buffer, rewritten with `w`, is owned at `w`. -/
theorem landed_owns (d : Dev nD) {sh : Shape} {e : EltTy} (M : Memref sig .tc .vmem sh e) (f : Buf (Elt F) (M.view.loc (d : Thread nD τ)))
    (w : sh.Idx → Elt F e) :
    (M.view.loc (d : Thread nD τ) ↦[M.view.set]{fullShare} M.view.write (Elt F) f w Finset.univ : sProp 𝕄) ⊢ owns (d : Thread nD τ) M fullShare w := by
  refine (owns_intro (d : Thread nD τ) M fullShare _).trans (Entails.of_eq ?_)
  rw [View.read_write_univ]

omit [FloatOps F] in
theorem hold_intro (d : Dev nD) {sh : Shape} {e : EltTy} (M : Memref sig .tc .vmem sh e) (f : Buf (Elt F) (M.view.loc (d : Thread nD τ))) :
    (M.view.loc (d : Thread nD τ) ↦[M.view.set]{fullShare} f : sProp 𝕄) ⊢ hold d M := by
  unfold hold; iintro H; iexists f; iexact H

/-- A copy of piece `j` of a send buffer to the device that `c` sends to, the piece having been written with `w`, where the
    receive cell's duty asks for the receive buffer's piece at `w`. -/
theorem wp_copy (c n : Dev nD) (hn : n = nxt k c) (f₁ f₂ j : Fin 4) {sh : Shape} {e : EltTy} (src dst : Memref sig .tc .vmem sh e) (w : sh.Idx → Elt F e)
    (hp₁ : pay k m ρ c (.inr (f₁, j)) false = hold c src)
    (hp₂ : pay k m ρ (nxt k c) (.inr (f₂, j)) false = owns (nxt k c : Thread nD τ) dst fullShare w)
    (hN : dst.view.dmaCredit = amt (.inr (f₂, j))) (hN' : amt (.inr (f₁, j)) = amt (.inr (f₂, j)))
    {e₁ e₂ : DmaSem sig} (he₁ : e₁ = sm f₁ j) (he₂ : e₂ = sm f₂ j)
    {hsc : (dst : Memref sig (Dev.tc n : Thread nD τ).2.kind .vmem sh e).view.ref.isScScratch = false}
    {hsrc : src.view.WordExact} {hdst : dst.view.WordExact}
    {hsem : DmaTarget.Typed .vmem (.dma e₂) (.remote (Dev.tc n : Thread nD τ) dst (.dma e₁) hsc)}
    {α : Type} {Q : α → sProp 𝕄} {kt : PUnit → Prog (TpuEff nD τ sig (Elt F) Λ₀ .tc) α}
    (fs : Buf (Elt F) (src.view.loc (c : Thread nD τ))) (hfs : src.view.read (Elt F) fs = w)
    (O O' : CellTallies nD τ sig Unit) (hO : O' = O + tallyAt (dcell (nxt k c) f₂ j) () (amt (.inr (f₂, j)))) (W : Waits sig Unit) :
    iprop(records k m ρ K ∗ (src.view.loc (c : Thread nD τ) ↦[src.view.set]{fullShare} fs) ∗ hold (nxt k c) dst
        ∗ owes (c : Thread nD τ) O' W ∗ dutyTok ER (dcell c f₁ j) 0 false ∗ dutyTok ER (dcell (nxt k c) f₂ j) 0 false)
      ⊢ iprop(((cred (tallyAt (dcell c f₁ j) () (amt (.inr (f₁, j)))) ∗ owes (c : Thread nD τ) O W) -∗ run c (kt ⟨⟩) Q)
          -∗ run c (.op (.enqueueDma src (.remote (Dev.tc n : Thread nD τ) dst (.dma e₁) hsc) (.dma e₂) hsrc hdst hsem) kt) Q) := by
  subst hn he₁ he₂
  unfold hold
  iintro ⟨#HR, Hs, ⟨%fd, Hd⟩, HO, Ht₁, Ht₂⟩ Hk
  have hd₁ : false ∈ (Rd k m ρ).duties (dcell c f₁ j) 0 := by
    rw [show dcell c f₁ j = cell c (.inr (f₁, j)) from rfl, duties_cell]; exact Finset.mem_singleton_self _
  have hd₂ : false ∈ (Rd k m ρ).duties (dcell (nxt k c) f₂ j) 0 := by
    rw [show dcell (nxt k c) f₂ j = cell (nxt k c) (.inr (f₂, j)) from rfl, duties_cell]; exact Finset.mem_singleton_self _
  have hpay₁ : (src.view.loc (c : Thread nD τ) ↦[src.view.set]{fullShare} fs : sProp 𝕄) ⊢ (Rd k m ρ).payload (dcell c f₁ j) 0 false := by
    rw [show dcell c f₁ j = cell c (.inr (f₁, j)) from rfl, payload_cell, hp₁]; exact hold_intro c src fs
  have hpay₂ : (dst.view.loc (nxt k c : Thread nD τ) ↦[dst.view.set]{fullShare} dst.view.write (Elt F) fd (src.view.read (Elt F) fs) Finset.univ : sProp 𝕄)
      ⊢ (Rd k m ρ).payload (dcell (nxt k c) f₂ j) 0 false := by
    rw [show dcell (nxt k c) f₂ j = cell (nxt k c) (.inr (f₂, j)) from rfl, payload_cell, hp₂, hfs]; exact landed_owns (nxt k c) dst fd w
  iapply (Rounds.wp_send_pointsTo 𝒱₀ ER (Rd k m ρ) (c : Thread nD τ) none (κ₁ := K (c, .inr (f₁, j))) (κ₂ := K (nxt k c, .inr (f₂, j)))
    (r₁ := 0) (r₂ := 0) (d₁ := false) (d₂ := false) (fs := fs) (fd := fd) hd₁ hd₂
    () () (amt (.inr (f₁, j))) (hN.trans hN'.symm) (amount_cell k m ρ c (.inr (f₁, j)) false) ((amount_cell k m ρ (nxt k c) (.inr (f₂, j)) false).trans hN'.symm)
    (O₀ := O') O (hN' ▸ hO) (W := W) hpay₁ hpay₂) $$ [Hs Hd HO Ht₁ Ht₂]
  · isplitr; · iapply (inv_at k m ρ K c (.inr (f₁, j))); iexact HR
    isplitr; · iapply (inv_at k m ρ K (nxt k c) (.inr (f₂, j))); iexact HR
    isplitl [Hs]; · iexact Hs
    isplitl [Hd]; · iexact Hd
    isplitl [HO]; · iexact HO
    isplitl [Ht₁]; · iexact Ht₁
    isplitr; · iapply (reached_at k m ρ K c (.inr (f₁, j))); iexact HR
    isplitl [Ht₂]; · iexact Ht₂
    iapply (reached_at k m ρ K (nxt k c) (.inr (f₂, j))); iexact HR
  iexact Hk

/-- What a device needs to send piece `j`: its own two send pieces, the receiver's two pieces, and the four duties. -/
def sendPre (c : Dev nD) (j : Fin 4) : sProp 𝕄 :=
  iprop((hold c (pq sqM j) ∗ hold c (ps ssM j)) ∗ (hold (nxt k c) (pq rqM j) ∗ hold (nxt k c) (ps rsM j)) ∗ pays k c j)
/-- What it has of piece `j` after sending it: the right to wait for its two copies to have left. -/
def sendPost (c : Dev nD) (j : Fin 4) : sProp 𝕄 :=
  iprop(cred (tallyAt (dcell c 0 j) () NQ) ∗ cred (tallyAt (dcell c 2 j) () NS))

/-- Quantising piece `j` and starting its two copies. -/
theorem wp_piece_send (c : Dev nD) (j : Fin 4) {oq : Fin 3 → ℕ} {os : Fin 2 → ℕ} (hoq : oq = ![0, 128 * j.val, 0]) (hos : os = ![0, 128 * j.val])
    {iq : ∀ a, oq a + S1x128x512.size a ≤ S1x512x512.size a} {is : ∀ a, os a + S1x128.size a ≤ S1x512.size a}
    (n n' : Dev nD) (hn : n = nxt k c) (hn' : n' = nxt k c) (qf : Vec F S1x128x512 .f32 → Vec F S1x128x512 .i8) (sf : Vec F S1x128x512 .f32 → Vec F S1x128 .f32)
    (hqf : qf = quant) (hsf : sf = scale)
    {e₀ e₁ e₂ e₃ : DmaSem sig} (he₀ : e₀ = sm 0 j) (he₁ : e₁ = sm 1 j) (he₂ : e₂ = sm 2 j) (he₃ : e₃ = sm 3 j)
    {lx : xM.view.LoadsAt (Rect.unit (s := S1x512x512) oq S1x128x512.size iq).toLoadRect}
    {ls : ssM.view.LoadsAt (Rect.unit (s := S1x512) os S1x128.size is).toLoadRect}
    {lq : sqM.view.LoadsAt (Rect.unit (s := S1x512x512) oq S1x128x512.size iq).toLoadRect}
    {xs : (ssM.access (Rect.unit (s := S1x512) os S1x128.size is)).Stores Finset.univ} {ms}
    {xq : (sqM.access (Rect.unit (s := S1x512x512) oq S1x128x512.size iq)).Stores Finset.univ} {mq} {hu hu' hu'' hu'''}
    {hsc} {hsrc} {hdst} {hsem} {hsc'} {hsrc'} {hdst'} {hsem'}
    {α : Type} {Q : α → sProp 𝕄} {kt : PUnit → Prog (TpuEff nD τ sig (Elt F) Λ₀ .tc) α}
    (O : CellTallies nD τ sig Unit) (W : Waits sig Unit) :
    iprop(records k m ρ K ∗ xHeld m ρ c ∗ owes (c : Thread nD τ) (O + debt k c j) W ∗ sendPre k c j)
      ⊢ iprop(((xHeld m ρ c ∗ owes (c : Thread nD τ) O W ∗ sendPost c j) -∗ run c (kt ⟨⟩) Q)
          -∗ run c (.op (.load xM (Rect.unit (s := S1x512x512) oq S1x128x512.size iq).toLoadRect lx) fun v =>
              .op (.load ssM (Rect.unit (s := S1x512) os S1x128.size is).toLoadRect ls) fun _ =>
              .op (.store ssM (Rect.unit (s := S1x512) os S1x128.size is) (sf v) Finset.univ xs ms) fun _ =>
              .op (.load sqM (Rect.unit (s := S1x512x512) oq S1x128x512.size iq).toLoadRect lq) fun _ =>
              .op (.store sqM (Rect.unit (s := S1x512x512) oq S1x128x512.size iq) (qf v) Finset.univ xq mq) fun _ =>
              .op (.enqueueDma (sqM.slice (Rect.unit (s := S1x512x512) oq S1x128x512.size iq) hu)
                (.remote (Dev.tc n : Thread nD τ) (rqM.slice (Rect.unit (s := S1x512x512) oq S1x128x512.size iq) hu') (.dma e₀) hsc) (.dma e₁) hsrc hdst hsem) fun _ =>
              .op (.enqueueDma (ssM.slice (Rect.unit (s := S1x512) os S1x128.size is) hu'')
                (.remote (Dev.tc n' : Thread nD τ) (rsM.slice (Rect.unit (s := S1x512) os S1x128.size is) hu''') (.dma e₂) hsc') (.dma e₃) hsrc' hdst' hsem') kt) Q) := by
  subst hoq hos hqf hsf
  unfold sendPre pays hold
  iintro ⟨#HR, Hx, HO, ⟨⟨⟨%fq, Hq⟩, %fs, Hs⟩, ⟨Hrq, Hrs⟩, Ht0, Ht1, Ht2, Ht3⟩⟩ Hk
  iapply (wp_load_rect 𝒱₀ (c : Thread nD τ) none Set.univ (m := xM) (r := rx j) (Finset.subset_univ _)) $$ Hx; iintro Hx
  iapply (wp_load_rect 𝒱₀ (c : Thread nD τ) none Set.univ (m := ssM) (r := rs j) (S := (ps ssM j).view.set) subset_rfl) $$ Hs; iintro Hs
  iapply (wp_store 𝒱₀ (c : Thread nD τ) none Set.univ (m := ssM) (r := rs j) (Mk := Finset.univ) (S := (ps ssM j).view.set) subset_rfl) $$ Hs; iintro Hs
  iapply (wp_load_rect 𝒱₀ (c : Thread nD τ) none Set.univ (m := sqM) (r := rx j) (S := (pq sqM j).view.set) subset_rfl) $$ Hq; iintro Hq
  iapply (wp_store 𝒱₀ (c : Thread nD τ) none Set.univ (m := sqM) (r := rx j) (Mk := Finset.univ) (S := (pq sqM j).view.set) subset_rfl) $$ Hq; iintro Hq
  have hdebt : O + debt k c j = (O + tallyAt (dcell (nxt k c) 3 j) () NS) + tallyAt (dcell (nxt k c) 1 j) () (amt (.inr (1, j))) := by
    unfold debt; rw [add_assoc]; rfl
  iapply (wp_copy k m ρ K c n hn 0 1 j (pq sqM j) (pq rqM j) (quant (xpiece m ρ c j)) rfl (by show owns _ _ _ _ = _; rw [prv_nxt]) rfl rfl he₀ he₁
    ((pq sqM j).view.write (Elt F) fq (quant (xpiece m ρ c j)) Finset.univ) (View.read_write_univ _ _)
    (O + tallyAt (dcell (nxt k c) 3 j) () NS) _ hdebt W) $$ [Hq Hrq HO Ht0 Ht1]
  · isplitr; · iexact HR
    isplitl [Hq]; · iexact Hq
    isplitl [Hrq]; · unfold hold; iexact Hrq
    isplitl [HO]; · iexact HO
    isplitl [Ht0] <;> iassumption
  iintro ⟨Hc0, HO⟩
  iapply (wp_copy k m ρ K c n' hn' 2 3 j (ps ssM j) (ps rsM j) (scale (xpiece m ρ c j)) rfl (by show owns _ _ _ _ = _; rw [prv_nxt]) rfl rfl he₂ he₃
    ((ps ssM j).view.write (Elt F) fs (scale (xpiece m ρ c j)) Finset.univ) (View.read_write_univ _ _)
    O _ rfl W) $$ [Hs Hrs HO Ht2 Ht3]
  · isplitr; · iexact HR
    isplitl [Hs]; · iexact Hs
    isplitl [Hrs]; · unfold hold; iexact Hrs
    isplitl [HO]; · iexact HO
    isplitl [Ht2] <;> iassumption
  iintro ⟨Hc2, HO⟩
  iapply Hk
  isplitl [Hx]; · iexact Hx
  isplitl [HO]; · iexact HO
  unfold sendPost
  isplitl [Hc0]; · iexact Hc0
  iexact Hc2

/-- Device `c` owes nothing. -/
def clear (c : Dev nD) : sProp 𝕄 := iprop(∃ W, owes (c : Thread nD τ) 0 W)

/-- Waiting for a copy to raise cell `(f, j)`: its payload comes, and the cell closes at zero. -/
theorem wp_landed (c : Dev nD) (f j : Fin 4) {sp sp' : Space} {sh sh' : Shape} {el el' : EltTy} {src : Memref sig .tc sp' sh' el'} {dst : Memref sig .tc sp sh el}
    (hN : dst.view.dmaCredit = amt (.inr (f, j))) {e : DmaSem sig} (he : e = sm f j) {hsrc : src.view.WordExact} {hdst : dst.view.WordExact}
    {α : Type} {Q : α → sProp 𝕄} {kt : PUnit → Prog (TpuEff nD τ sig (Elt F) Λ₀ .tc) α} :
    iprop(records k m ρ K ∗ clear c ∗ cred (tallyAt (dcell c f j) () (amt (.inr (f, j)))) ∗ atPos ER (dcell c f j) 0 ∅ 0)
      ⊢ iprop(((clear c ∗ semVal (dcell c f j) 0 ∗ pay k m ρ c (.inr (f, j)) false) -∗ run c (kt ⟨⟩) Q)
          -∗ run c (.op (.waitDma2 e src dst hsrc hdst) kt) Q) := by
  subst he
  unfold clear
  rw [← hN]
  iintro ⟨#HR, ⟨%W, HO⟩, Hc, Hat⟩ Hk
  iapply (Rounds.wp_wait_rest_token 𝒱₀ ER (Rd k m ρ) (c : Thread nD τ) none (κ := K (c, .inr (f, j)))
      (wpE_waitDma2_eq 𝒱₀ (c : Thread nD τ) none Set.univ) (Set.mem_univ _) () (O := 0) (W := W) (R := 0) (m := 0) (T := ∅)
      (by rw [Nat.zero_add, expect_copy, hN])) $$ [Hc HO Hat]
  · isplitr; · iapply (inv_at k m ρ K c (.inr (f, j))); iexact HR
    isplitl [Hc]; · iexact Hc
    isplitl [HO]; · iexact HO
    isplitr; · rw [MayWait_zero]; iempintro
    iexact Hat
  iintro ⟨HO, Hat, -, Hpay⟩
  ihave Hp := (Entails.of_eq (rest_copy k m ρ c f j)) $$ Hpay
  imod (Rounds.cell_close ER (Rd k m ρ) (Set.mem_univ (K (c, .inr (f, j)))) (fun h => h) (R := 0 + 1) (duties_later k m ρ (dcell c f j))) $$ [Hat] with Hz
  · isplitr; · iapply (inv_at k m ρ K c (.inr (f, j))); iexact HR
    iexact Hat
  iapply Hk
  isplitl [HO]; · iexists _; iexact HO
  isplitl [Hz] <;> iassumption

/-- What a device needs to receive piece `j`, -/
def recvPre (c : Dev nD) (j : Fin 4) : sProp 𝕄 :=
  iprop((cred (tallyAt (dcell c 1 j) () NQ) ∗ cred (tallyAt (dcell c 3 j) () NS)) ∗ (atPos ER (dcell c 1 j) 0 ∅ 0 ∗ atPos ER (dcell c 3 j) 0 ∅ 0) ∗ hold c (pq oM j))
/-- and what it has after: the two receive cells closed, the receive buffers' pieces, and the result's piece. -/
def recvPost (c : Dev nD) (j : Fin 4) : sProp 𝕄 :=
  iprop((semVal (dcell c 1 j) 0 ∗ semVal (dcell c 3 j) 0) ∗ (hold c (pq rqM j) ∗ hold c (ps rsM j)) ∗ owns (c : Thread nD τ) (pq oM j) fullShare (opiece k m ρ c j))

/-- Receiving piece `j` and making its rows again. -/
theorem wp_piece_recv (c : Dev nD) (j : Fin 4) {oq : Fin 3 → ℕ} {os : Fin 2 → ℕ} (hoq : oq = ![0, 128 * j.val, 0]) (hos : os = ![0, 128 * j.val])
    {iq : ∀ a, oq a + S1x128x512.size a ≤ S1x512x512.size a} {is : ∀ a, os a + S1x128.size a ≤ S1x512.size a}
    (df : Vec F S1x128x512 .i8 → Vec F S1x128 .f32 → Vec F S1x128x512 .bf16) (hdf : df = dequant)
    {e₁ e₃ : DmaSem sig} (he₁ : e₁ = sm 1 j) (he₃ : e₃ = sm 3 j)
    {lq : rqM.view.LoadsAt (Rect.unit (s := S1x512x512) oq S1x128x512.size iq).toLoadRect}
    {ls : rsM.view.LoadsAt (Rect.unit (s := S1x512) os S1x128.size is).toLoadRect}
    {lo : oM.view.LoadsAt (Rect.unit (s := S1x512x512) oq S1x128x512.size iq).toLoadRect}
    {xo : (oM.access (Rect.unit (s := S1x512x512) oq S1x128x512.size iq)).Stores Finset.univ} {mo} {hu hu' hu'' hu'''}
    {hsrc} {hdst} {hsrc'} {hdst'}
    {α : Type} {Q : α → sProp 𝕄} {kt : PUnit → Prog (TpuEff nD τ sig (Elt F) Λ₀ .tc) α} :
    iprop(records k m ρ K ∗ clear c ∗ recvPre c j)
      ⊢ iprop(((clear c ∗ recvPost k m ρ c j) -∗ run c (kt ⟨⟩) Q)
          -∗ run c (.op (.waitDma2 e₃ (ssM.slice (Rect.unit (s := S1x512) os S1x128.size is) hu) (rsM.slice (Rect.unit (s := S1x512) os S1x128.size is) hu') hsrc hdst) fun _ =>
              .op (.waitDma2 e₁ (sqM.slice (Rect.unit (s := S1x512x512) oq S1x128x512.size iq) hu'') (rqM.slice (Rect.unit (s := S1x512x512) oq S1x128x512.size iq) hu''') hsrc' hdst') fun _ =>
              .op (.load rqM (Rect.unit (s := S1x512x512) oq S1x128x512.size iq).toLoadRect lq) fun q =>
              .op (.load rsM (Rect.unit (s := S1x512) os S1x128.size is).toLoadRect ls) fun s =>
              .op (.load oM (Rect.unit (s := S1x512x512) oq S1x128x512.size iq).toLoadRect lo) fun _ =>
              .op (.store oM (Rect.unit (s := S1x512x512) oq S1x128x512.size iq) (df q s) Finset.univ xo mo) kt) Q) := by
  subst hoq hos hdf
  unfold recvPre
  iintro ⟨#HR, Hcl, ⟨⟨Hc1, Hc3⟩, ⟨Ha1, Ha3⟩, Hout⟩⟩ Hk
  iapply (wp_landed k m ρ K c 3 j (src := ps ssM j) (dst := ps rsM j) rfl he₃) $$ [Hcl Hc3 Ha3]
  · isplitr; · iexact HR
    isplitl [Hcl]; · iexact Hcl
    isplitl [Hc3]; · iexact Hc3
    iexact Ha3
  iintro ⟨Hcl, Hz3, Hp3⟩
  iapply (wp_landed k m ρ K c 1 j (src := pq sqM j) (dst := pq rqM j) rfl he₁) $$ [Hcl Hc1 Ha1]
  · isplitr; · iexact HR
    isplitl [Hcl]; · iexact Hcl
    isplitl [Hc1]; · iexact Hc1
    iexact Ha1
  iintro ⟨Hcl, Hz1, Hp1⟩
  unfold pay owns
  icases Hp3 with ⟨%gs, %hgs, Hs⟩
  icases Hp1 with ⟨%gq, %hgq, Hq⟩
  ihave Hout' := (show (hold c (pq oM j) : sProp 𝕄) ⊢ iprop(∃ f, (pq oM j).view.loc (c : Thread nD τ) ↦[(pq oM j).view.set]{fullShare} f) from .rfl) $$ Hout
  icases Hout' with ⟨%go, Hout⟩
  iapply (wp_load_rect 𝒱₀ (c : Thread nD τ) none Set.univ (m := rqM) (r := rx j) (S := (pq rqM j).view.set) subset_rfl) $$ Hq; iintro Hq
  iapply (wp_load_rect 𝒱₀ (c : Thread nD τ) none Set.univ (m := rsM) (r := rs j) (S := (ps rsM j).view.set) subset_rfl) $$ Hs; iintro Hs
  iapply (wp_load_rect 𝒱₀ (c : Thread nD τ) none Set.univ (m := oM) (r := rx j) (S := (pq oM j).view.set) subset_rfl) $$ Hout; iintro Hout
  iapply (wp_store 𝒱₀ (c : Thread nD τ) none Set.univ (m := oM) (r := rx j) (Mk := Finset.univ) (S := (pq oM j).view.set) subset_rfl) $$ Hout; iintro Hout
  iapply Hk
  isplitl [Hcl]; · iexact Hcl
  unfold recvPost
  isplitl [Hz1 Hz3]
  · isplitl [Hz1] <;> iassumption
  isplitl [Hq Hs]
  · isplitl [Hq]
    · iapply (hold_intro (F := F) c (pq rqM j) gq); iexact Hq
    · iapply (hold_intro (F := F) c (ps rsM j) gs); iexact Hs
  have hw : (rqM.access (rx j) : View sig .tc _ _ _).read (Elt F) gq = quant (xpiece m ρ (prv k c) j) := hgq
  have hw' : (rsM.access (rs j) : View sig .tc _ _ _).read (Elt F) gs = scale (xpiece m ρ (prv k c) j) := hgs
  rw [hw, hw']
  iapply (landed_owns (F := F) c (pq oM j) go (opiece k m ρ c j))
  iexact Hout

/-- What a device needs to finish piece `j`, -/
def donePre (c : Dev nD) (j : Fin 4) : sProp 𝕄 :=
  iprop(sendPost c j ∗ atPos ER (dcell c 0 j) 0 ∅ 0 ∗ atPos ER (dcell c 2 j) 0 ∅ 0)
/-- and what it has after: the two send cells closed and the send buffers' pieces. -/
def donePost (c : Dev nD) (j : Fin 4) : sProp 𝕄 :=
  iprop((semVal (dcell c 0 j) 0 ∗ semVal (dcell c 2 j) 0) ∗ hold c (pq sqM j) ∗ hold c (ps ssM j))

/-- Waiting for the two copies of piece `j` to have left. -/
theorem wp_piece_done (c : Dev nD) (j : Fin 4) {oq : Fin 3 → ℕ} {os : Fin 2 → ℕ} (hoq : oq = ![0, 128 * j.val, 0]) (hos : os = ![0, 128 * j.val])
    {iq : ∀ a, oq a + S1x128x512.size a ≤ S1x512x512.size a} {is : ∀ a, os a + S1x128.size a ≤ S1x512.size a}
    {e₀ e₂ : DmaSem sig} (he₀ : e₀ = sm 0 j) (he₂ : e₂ = sm 2 j) {hu hu' hu'' hu'''} {hsrc} {hdst} {hsrc'} {hdst'}
    {α : Type} {Q : α → sProp 𝕄} {kt : PUnit → Prog (TpuEff nD τ sig (Elt F) Λ₀ .tc) α} :
    iprop(records k m ρ K ∗ clear c ∗ donePre c j)
      ⊢ iprop(((clear c ∗ donePost c j) -∗ run c (kt ⟨⟩) Q)
          -∗ run c (.op (.waitDma2 e₀ (rqM.slice (Rect.unit (s := S1x512x512) oq S1x128x512.size iq) hu) (sqM.slice (Rect.unit (s := S1x512x512) oq S1x128x512.size iq) hu') hsrc hdst) fun _ =>
              .op (.waitDma2 e₂ (rsM.slice (Rect.unit (s := S1x512) os S1x128.size is) hu'') (ssM.slice (Rect.unit (s := S1x512) os S1x128.size is) hu''') hsrc' hdst') kt) Q) := by
  subst hoq hos
  unfold donePre sendPost
  iintro ⟨#HR, Hcl, ⟨Hc0, Hc2⟩, Ha0, Ha2⟩ Hk
  iapply (wp_landed k m ρ K c 0 j (src := pq rqM j) (dst := pq sqM j) rfl he₀) $$ [Hcl Hc0 Ha0]
  · isplitr; · iexact HR
    isplitl [Hcl]; · iexact Hcl
    isplitl [Hc0]; · iexact Hc0
    iexact Ha0
  iintro ⟨Hcl, Hz0, Hp0⟩
  iapply (wp_landed k m ρ K c 2 j (src := ps rsM j) (dst := ps ssM j) rfl he₂) $$ [Hcl Hc2 Ha2]
  · isplitr; · iexact HR
    isplitl [Hcl]; · iexact Hcl
    isplitl [Hc2]; · iexact Hc2
    iexact Ha2
  iintro ⟨Hcl, Hz2, Hp2⟩
  unfold pay
  iapply Hk
  isplitl [Hcl]; · iexact Hcl
  unfold donePost
  isplitl [Hz0 Hz2]
  · isplitl [Hz0] <;> iassumption
  isplitl [Hp0] <;> iassumption

end Cert.KernelIdeal.Shuffle

end
-- ==== Proof.IdealBody.lean ====
/-
# The shuffle's body on one device

The kernel's body run from what a device is launched with to what it ends with: the table's words are read and name the
two neighbours, the two barrier signals and the barrier wait give the receiver's two buffers, the four pieces are sent,
received and finished, and every cell the device owns ends at zero.
-/
module

public import proofs.«01_k».proof.Proof.IdealPieces
public import proofs.«01_k».proof.Proof.Gen.KernelIdeal.Points

@[expose] public section

noncomputable section

namespace Cert.KernelIdeal.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (k : Fin 4) (m : (ℓ : Loc nD τ sig) → Buf (Elt F) ℓ) (ρ : Dev nD → PrngReg) (K : Dev nD × CI → ℕ)

/-! ## Sharing a device's holdings out over the four pieces -/

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The send buffers, the receiver's buffers and the duties, by pieces. -/
theorem deal_send (c : Dev nD) :
    iprop(hold c sqM ∗ hold c ssM ∗ barPay k c ∗ bigSep Finset.univ fun j => pays (F := F) k c j)
      ⊢ iprop(sendPre k c 0 ∗ sendPre k c 1 ∗ sendPre k c 2 ∗ sendPre k c 3) := by
  rw [← four (fun j => sendPre (F := F) k c j)]
  unfold barPay sendPre
  simp only [bigSep_sep']
  iintro ⟨Hq, Hs, ⟨Hrq, Hrs⟩, Hp⟩
  isplitl [Hq Hs]
  · isplitl [Hq]
    · iapply (hold_split (F := F) c sqM rx (fun _ _ => rfl) rx_disjoint rx_cover); iexact Hq
    · iapply (hold_split (F := F) c ssM rs (fun _ _ => rfl) rs_disjoint rs_cover); iexact Hs
  isplitl [Hrq Hrs]
  · isplitl [Hrq]
    · iapply (hold_split (F := F) (nxt k c) rqM rx (fun _ _ => rfl) rx_disjoint rx_cover); iexact Hrq
    · iapply (hold_split (F := F) (nxt k c) rsM rs (fun _ _ => rfl) rs_disjoint rs_cover); iexact Hrs
  iexact Hp

/-- The credit, the positions and the result's buffer, by pieces. -/
theorem deal_recv (c : Dev nD) :
    iprop((bigSep Finset.univ fun j : Fin 4 => iprop(cred (tallyAt (dcell c 1 j) () NQ) ∗ cred (tallyAt (dcell c 3 j) () NS)))
        ∗ (bigSep Finset.univ fun j => poss (F := F) c j) ∗ hold c oM)
      ⊢ iprop((recvPre c 0 ∗ recvPre c 1 ∗ recvPre c 2 ∗ recvPre c 3)
          ∗ (atPos ER (dcell c 0 0) 0 ∅ 0 ∗ atPos ER (dcell c 2 0) 0 ∅ 0) ∗ (atPos ER (dcell c 0 1) 0 ∅ 0 ∗ atPos ER (dcell c 2 1) 0 ∅ 0)
          ∗ (atPos ER (dcell c 0 2) 0 ∅ 0 ∗ atPos ER (dcell c 2 2) 0 ∅ 0) ∗ (atPos ER (dcell c 0 3) 0 ∅ 0 ∗ atPos ER (dcell c 2 3) 0 ∅ 0)) := by
  rw [← four (fun j => recvPre (F := F) c j), ← four (fun j => (iprop(atPos ER (dcell c 0 j) 0 ∅ 0 ∗ atPos ER (dcell c 2 j) 0 ∅ 0) : sProp 𝕄))]
  unfold recvPre poss
  simp only [bigSep_sep']
  iintro ⟨⟨Hc1, Hc3⟩, ⟨Ha0, Ha1, Ha2, Ha3⟩, Ho⟩
  isplitr [Ha0 Ha2]
  · isplitl [Hc1 Hc3]
    · isplitl [Hc1] <;> iassumption
    isplitl [Ha1 Ha3]
    · isplitl [Ha1] <;> iassumption
    iapply (hold_split (F := F) c oM rx (fun _ _ => rfl) rx_disjoint rx_cover); iexact Ho
  · isplitl [Ha0] <;> iassumption

/-- After the run: the scratch buffers are whole again, every cell reads zero, and the result's buffer holds the result. -/
theorem collect (c : Dev nD) :
    iprop((recvPost k m ρ c 0 ∗ recvPost k m ρ c 1 ∗ recvPost k m ρ c 2 ∗ recvPost k m ρ c 3)
        ∗ (donePost c 0 ∗ donePost c 1 ∗ donePost c 2 ∗ donePost c 3) ∗ semVal (bar c) 0)
      ⊢ iprop(Φ₁ c ∗ owns (c : Thread nD τ) oM fullShare (outAt k m ρ c)) := by
  haveI : ∀ e, Nonempty (Elt F e) := fun e => inferInstance
  rw [← four (fun j => recvPost k m ρ c j), ← four (fun j => donePost (F := F) c j)]
  unfold recvPost donePost Φ₁ scratch zeros
  simp only [bigSep_sep']
  iintro ⟨⟨⟨Hz1, Hz3⟩, ⟨Hrq, Hrs⟩, Ho⟩, ⟨⟨Hz0, Hz2⟩, Hsq, Hss⟩, Hb⟩
  isplitr [Ho]
  · isplitl [Hrq Hrs Hsq Hss]
    · isplitl [Hsq]; · iapply (hold_join (F := F) c sqM rx (fun _ _ => rfl) rx_disjoint rx_cover); iexact Hsq
      isplitl [Hss]; · iapply (hold_join (F := F) c ssM rs (fun _ _ => rfl) rs_disjoint rs_cover); iexact Hss
      isplitl [Hrq]; · iapply (hold_join (F := F) c rqM rx (fun _ _ => rfl) rx_disjoint rx_cover); iexact Hrq
      iapply (hold_join (F := F) c rsM rs (fun _ _ => rfl) rs_disjoint rs_cover); iexact Hrs
    isplitl [Hb]; · iexact Hb
    isplitl [Hz0]; · iexact Hz0
    isplitl [Hz1]; · iexact Hz1
    isplitl [Hz2] <;> iassumption
  · have h : (bigSep Finset.univ fun j : Fin 4 => owns (c : Thread nD τ) (pq oM j) fullShare (opiece k m ρ c j) : sProp 𝕄)
        ⊢ owns (c : Thread nD τ) oM fullShare (outAt k m ρ c) := by
      refine (Entails.of_eq (bigSep_congr fun j _ => ?_)).trans
        (owns_of_rects (c : Thread nD τ) oM fullShare rx (fun _ _ => rfl) rx_disjoint rx_cover (outAt k m ρ c))
      exact congrArg _ (funext fun i => (outAt_emb k m ρ c j i).symm)
    iapply h; iexact Ho

/-! ## The body -/

/-- The launch has one grid point. -/
theorem points : cfg0.N = 1 := by decide
def t₀ : Fin cfg0.N := ⟨0, points ▸ Nat.one_pos⟩
theorem fin_N (t : Fin cfg0.N) : t = t₀ := Fin.ext (Nat.lt_one_iff.mp (points ▸ t.isLt))

/-- A staging buffer held at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body starts from on device `c`. -/
def bodyPre (c : Dev nD) : sProp 𝕄 :=
  iprop(Φ₀ k m ρ c ∗ (dats k m ρ 0 c).owesAt () t₀.castSucc
    ∗ (∃ d, stg c cc0_stg0_0 ((dats k m ρ 0 c).before (0 : Fin 3) t₀ d))
    ∗ (∃ d, stg c cc0_stg1_0 ((dats k m ρ 0 c).before (1 : Fin 3) t₀ d))
    ∗ (∃ d, stg c cc0_stg2_0 ((dats k m ρ 0 c).before (2 : Fin 3) t₀ d)))
/-- What it ends with. -/
def bodyPost (c : Dev nD) : sProp 𝕄 :=
  iprop(Φ₁ c ∗ (dats k m ρ 0 c).owesAt () t₀.succ
    ∗ stg c cc0_stg0_0 (xstg m ρ c) ∗ stg c cc0_stg1_0 (tstg m ρ c) ∗ stg c cc0_stg2_0 (outAt k m ρ c))

set_option maxHeartbeats 1600000 in
/-- The body, run one rule per effect in program order. -/
theorem sound_body (hm : Rolled k m) (c : Dev nD) (Kt : PUnit → sProp 𝕄) :
    iprop(bodyPre k m ρ c ∗ (bodyPost k m ρ c -∗ Kt ⟨⟩))
      ⊢ run c (cc0_body xM (Memref.isWhole_whole _) tM (Memref.isWhole_whole _) oM (Memref.isWhole_whole _) sqM (Memref.isWhole_whole _)
          ssM (Memref.isWhole_whole _) rqM (Memref.isWhole_whole _) rsM (Memref.isWhole_whole _) cc0_scratch4 cc0_scratch5 cc0_scratch6 cc0_scratch7) Kt := by
  rw [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel
    k0_part10_skel k0_part11_skel k0_part12_skel
  simp only [semSignalWord, semWaitWord, smemLoad, smemLoadElt, Prog.lift, Prog.bind_op, Prog.bind_ret, Prog.pure_eq_ret, Prog.bind_assoc, wp_deviceId]
  unfold bodyPre Φ₀ start credits linear scratch
  iintro ⟨⟨⟨⟨⟨%K, #HR, ⟨Hab, Hposs⟩, HtN, HtP, Hpays⟩, ⟨Hcb, Hcr⟩, #Hlev⟩, Hsq, Hss, Hrq, Hrs⟩, Ho,
    ⟨%d0, %g0, %hg0, Hx⟩, ⟨%d1, %g1, %hg1, Ht⟩, ⟨%d2, %g2, %hg2, Hout⟩⟩, Hk⟩
  have hx : g0 = xstg m ρ c := by rw [hg0]; unfold Dat.before; rw [if_pos (fetch0_0 t₀)]; rfl
  have ht : g1 = tstg m ρ c := by rw [hg1]; unfold Dat.before; rw [if_pos (fetch0_1 t₀)]; rfl
  subst hx ht
  unfold Dat.owesAt Pipeline.owesWithin
  icases Ho with ⟨%W, %hW, HO⟩
  rw [show (dats k m ρ 0 c).owed t₀.castSucc = O₀ k c from rfl]
  -- the table's words: the word at the device's own position, which names devices, and then all four
  iapply (wp_load_rect 𝒱₀ (c : Thread nD τ) none Set.univ (m := tM) (r := Rect.unit (s := S4) (k0_off1 c) S1.size (k0_off1_inb c)) (Finset.subset_univ _)) $$ Ht; iintro Ht
  have hw := readWord_eq k m ρ hm c (k0_off1 c) (k0_off1_inb c) (zOf c) (by rw [k0_off1_eq]; rfl)
  unfold readWord at hw
  rw [hw]
  simp only [wp_assume_of _ _ _ _ (d := k0_chk1.dec _ _) (chk1_word k c)]
  iapply (wp_load_rect 𝒱₀ (c : Thread nD τ) none Set.univ (m := tM) (r := Rect.unit (s := S4) ![0] S1.size inb_S4_S1_0) (Finset.subset_univ _)) $$ Ht; iintro Ht
  have hw0 := readWord_eq k m ρ hm c ![0] inb_S4_S1_0 0 rfl
  unfold readWord at hw0
  rw [hw0]
  iapply (wp_load_rect 𝒱₀ (c : Thread nD τ) none Set.univ (m := tM) (r := Rect.unit (s := S4) ![1] S1.size inb_S4_S1_1) (Finset.subset_univ _)) $$ Ht; iintro Ht
  have hw1 := readWord_eq k m ρ hm c ![1] inb_S4_S1_1 1 rfl
  unfold readWord at hw1
  rw [hw1]
  iapply (wp_load_rect 𝒱₀ (c : Thread nD τ) none Set.univ (m := tM) (r := Rect.unit (s := S4) ![2] S1.size inb_S4_S1_2) (Finset.subset_univ _)) $$ Ht; iintro Ht
  have hw2 := readWord_eq k m ρ hm c ![2] inb_S4_S1_2 2 rfl
  unfold readWord at hw2
  rw [hw2]
  iapply (wp_load_rect 𝒱₀ (c : Thread nD τ) none Set.univ (m := tM) (r := Rect.unit (s := S4) ![3] S1.size inb_S4_S1_3) (Finset.subset_univ _)) $$ Ht; iintro Ht
  have hw3 := readWord_eq k m ρ hm c ![3] inb_S4_S1_3 3 rfl
  unfold readWord at hw3
  rw [hw3]
  simp only [wp_assume_of _ _ _ _ (d := k0_chk2.dec _ _ _ _ _) (k0_chk2_all c (word k 0) (word k 1) (word k 2) (word k 3))]
  -- the first signal, to the receiver's barrier: nothing to hand over
  have hN : false ∈ (Rd k m ρ).duties (bar (nxt k c)) 0 := by
    rw [show bar (nxt k c) = cell (nxt k c) (.inl ()) from rfl, duties_cell]; exact Finset.mem_univ _
  have hNp : (emp : sProp 𝕄) ⊢ (Rd k m ρ).payload (bar (nxt k c)) 0 false := by
    rw [show bar (nxt k c) = cell (nxt k c) (.inl ()) from rfl, payload_cell]; exact .rfl
  have hP : true ∈ (Rd k m ρ).duties (bar (prv k c)) 0 := by
    rw [show bar (prv k c) = cell (prv k c) (.inl ()) from rfl, duties_cell]; exact Finset.mem_univ _
  have hPp : iprop(hold c rqM ∗ hold c rsM) ⊢ (Rd k m ρ).payload (bar (prv k c)) 0 true := by
    rw [show bar (prv k c) = cell (prv k c) (.inl ()) from rfl, payload_cell]
    show _ ⊢ barPay k (prv k c)
    unfold barPay; rw [nxt_prv]
  have e1 : (⟨k0_dev1 c (word k (zOf c)), k0_dev1_lt c (word k (zOf c)) (chk1_word k c)⟩ : Dev nD) = nxt k c := Fin.ext (dev1_val k c)
  have e2 : (⟨k0_dev2 c (word k 0) (word k 1) (word k 2) (word k 3), k0_dev2_lt c (word k 0) (word k 1) (word k 2) (word k 3)
      (k0_chk2_all c (word k 0) (word k 1) (word k 2) (word k 3))⟩ : Dev nD) = prv k c := Fin.ext (dev2_val k c)
  simp only [e1, e2]
  iapply (Rounds.wp_signal 𝒱₀ ER (Rd k m ρ) (c : Thread nD τ) none (dst := (nxt k c : Thread nD τ)) (κ := K (nxt k c, .inl ())) (r := 0)
      (d := false) hN ((amount_cell k m ρ (nxt k c) (.inl ()) false).trans (by decide)) () (O₀ := O₀ k c) (Ob k c) rfl) $$ [HO HtN]
  · isplitr; · iapply (inv_at k m ρ K (nxt k c) (.inl ())); iexact HR
    isplitl [HO]; · iexact HO
    isplitl [HtN]; · iexact HtN
    isplitr; · iapply hNp; iempintro
    iapply (reached_at k m ρ K (nxt k c) (.inl ())); iexact HR
  iintro HO
  -- the second, to the sender's barrier, handing over the two receive buffers
  iapply (Rounds.wp_signal 𝒱₀ ER (Rd k m ρ) (c : Thread nD τ) none (dst := (prv k c : Thread nD τ)) (κ := K (prv k c, .inl ())) (r := 0)
      (d := true) hP ((amount_cell k m ρ (prv k c) (.inl ()) true).trans (by decide)) () (O₀ := Ob k c) (Oc k c) rfl) $$ [HO HtP Hrq Hrs]
  · isplitr; · iapply (inv_at k m ρ K (prv k c) (.inl ())); iexact HR
    isplitl [HO]; · iexact HO
    isplitl [HtP]; · iexact HtP
    isplitl [Hrq Hrs]
    · iapply hPp; isplitl [Hrq] <;> iassumption
    iapply (reached_at k m ρ K (prv k c) (.inl ())); iexact HR
  iintro HO
  -- the wait for both units: the receiver's two buffers come
  iapply (Rounds.wp_wait_rest_token 𝒱₀ ER (Rd k m ρ) (c : Thread nD τ) none (κ := K (c, .inl ()))
      (wpE_semWait_eq 𝒱₀ (c : Thread nD τ) none Set.univ) (Set.mem_univ _) () (O := Oc k c) (W := W) (R := 0) (m := 0) (T := ∅)
      (by rw [expect_bar]; decide)) $$ [Hcb HO Hab]
  · isplitr; · iapply (inv_at k m ρ K c (.inl ())); iexact HR
    isplitl [Hcb]; · iexact Hcb
    isplitl [HO]; · iexact HO
    isplitr; · iapply (mayWait_bar (F := F) k c); iexact Hlev
    iexact Hab
  iintro ⟨HO, Hab, -, Hpay⟩
  ihave Hp := (Entails.of_eq (rest_bar k m ρ c)) $$ Hpay
  icases Hp with ⟨-, Hbp⟩
  imod (Rounds.cell_close ER (Rd k m ρ) (Set.mem_univ (K (c, .inl ()))) (fun h => h) (R := 0 + 1) (duties_later k m ρ (bar c))) $$ [Hab] with Hzb
  · isplitr; · iapply (inv_at k m ρ K c (.inl ())); iexact HR
    iexact Hab
  -- the four pieces sent
  ihave Hs := (deal_send (F := F) k c) $$ [Hsq Hss Hbp Hpays]
  · isplitl [Hsq]; · iexact Hsq
    isplitl [Hss]; · iexact Hss
    isplitl [Hbp] <;> iassumption
  icases Hs with ⟨Hs0, Hs1, Hs2, Hs3⟩
  iapply (wp_piece_send k m ρ K c 0 rfl rfl _ _ (Fin.ext (dev3_val k c)) (Fin.ext (dev4_val k c)) k0_pay4 k0_pay3 rfl rfl rfl rfl rfl rfl (O₁ k c) _) $$ [Hx HO Hs0]
  · isplitr; · iexact HR
    isplitl [Hx]; · iexact Hx
    isplitl [HO]; · iexact HO
    iexact Hs0
  iintro ⟨Hx, HO, Hd0⟩
  iapply (wp_piece_send k m ρ K c 1 rfl rfl _ _ (Fin.ext (dev5_val k c)) (Fin.ext (dev6_val k c)) (fun v => k0_pay9 (k0_pay8 v)) k0_pay7 rfl rfl rfl rfl rfl rfl (O₂ k c) _) $$ [Hx HO Hs1]
  · isplitr; · iexact HR
    isplitl [Hx]; · iexact Hx
    isplitl [HO]; · iexact HO
    iexact Hs1
  iintro ⟨Hx, HO, Hd1⟩
  iapply (wp_piece_send k m ρ K c 2 rfl rfl _ _ (Fin.ext (dev7_val k c)) (Fin.ext (dev8_val k c)) (fun v => k0_pay13 (k0_pay10 v)) (fun v => k0_pay12 (k0_pay10 v)) rfl rfl rfl rfl rfl rfl (O₃ k c) _) $$ [Hx HO Hs2]
  · isplitr; · iexact HR
    isplitl [Hx]; · iexact Hx
    isplitl [HO]; · iexact HO
    iexact Hs2
  iintro ⟨Hx, HO, Hd2⟩
  iapply (wp_piece_send k m ρ K c 3 rfl rfl _ _ (Fin.ext (dev9_val k c)) (Fin.ext (dev10_val k c)) k0_pay17 k0_pay16 rfl rfl rfl rfl rfl rfl 0 _) $$ [Hx HO Hs3]
  · isplitr; · iexact HR
    isplitl [Hx]; · iexact Hx
    isplitl [HO]; · iexact HO
    iexact Hs3
  iintro ⟨Hx, HO, Hd3⟩
  -- received
  ihave Hr := (deal_recv (F := F) c) $$ [Hcr Hposs Hout]
  · isplitl [Hcr]; · iexact Hcr
    isplitl [Hposs]; · iexact Hposs
    have h : ((c : Thread nD τ).loc cc0_stg2_0 ↦{fullShare} g2 : sProp 𝕄) ⊢ hold c oM := by
      have h' := hold_intro (F := F) c oM g2
      rwa [show (oM.view.set) = Finset.univ from View.set_whole _] at h'
    iapply h; iexact Hout
  icases Hr with ⟨⟨Hr0, Hr1, Hr2, Hr3⟩, Hp0, Hp1, Hp2, Hp3⟩
  ihave Hcl := (show (owes (c : Thread nD τ) 0 (insert (SemLoc.reg barS, ()) W) : sProp 𝕄) ⊢ clear c from by
    unfold clear; iintro H; iexists _; iexact H) $$ HO
  iapply (wp_piece_recv k m ρ K c 0 rfl rfl k0_pay18 rfl rfl rfl) $$ [Hcl Hr0]
  · isplitr; · iexact HR
    isplitl [Hcl]; · iexact Hcl
    iexact Hr0
  iintro ⟨Hcl, Hr0⟩
  iapply (wp_piece_recv k m ρ K c 1 rfl rfl k0_pay19 rfl rfl rfl) $$ [Hcl Hr1]
  · isplitr; · iexact HR
    isplitl [Hcl]; · iexact Hcl
    iexact Hr1
  iintro ⟨Hcl, Hr1⟩
  iapply (wp_piece_recv k m ρ K c 2 rfl rfl k0_pay20 rfl rfl rfl) $$ [Hcl Hr2]
  · isplitr; · iexact HR
    isplitl [Hcl]; · iexact Hcl
    iexact Hr2
  iintro ⟨Hcl, Hr2⟩
  iapply (wp_piece_recv k m ρ K c 3 rfl rfl k0_pay21 rfl rfl rfl) $$ [Hcl Hr3]
  · isplitr; · iexact HR
    isplitl [Hcl]; · iexact Hcl
    iexact Hr3
  iintro ⟨Hcl, Hr3⟩
  -- and finished
  iapply (wp_piece_done k m ρ K c 0 rfl rfl rfl rfl) $$ [Hcl Hd0 Hp0]
  · isplitr; · iexact HR
    isplitl [Hcl]; · iexact Hcl
    unfold donePre
    isplitl [Hd0]; · iexact Hd0
    iexact Hp0
  iintro ⟨Hcl, Hd0⟩
  iapply (wp_piece_done k m ρ K c 1 rfl rfl rfl rfl) $$ [Hcl Hd1 Hp1]
  · isplitr; · iexact HR
    isplitl [Hcl]; · iexact Hcl
    unfold donePre
    isplitl [Hd1]; · iexact Hd1
    iexact Hp1
  iintro ⟨Hcl, Hd1⟩
  iapply (wp_piece_done k m ρ K c 2 rfl rfl rfl rfl) $$ [Hcl Hd2 Hp2]
  · isplitr; · iexact HR
    isplitl [Hcl]; · iexact Hcl
    unfold donePre
    isplitl [Hd2]; · iexact Hd2
    iexact Hp2
  iintro ⟨Hcl, Hd2⟩
  iapply (wp_piece_done k m ρ K c 3 rfl rfl rfl rfl) $$ [Hcl Hd3 Hp3]
  · isplitr; · iexact HR
    isplitl [Hcl]; · iexact Hcl
    unfold donePre
    isplitl [Hd3]; · iexact Hd3
    iexact Hp3
  iintro ⟨Hcl, Hd3⟩
  unfold run; rw [wp_ret]; imodintro
  ihave He := (collect (F := F) k m ρ c) $$ [Hr0 Hr1 Hr2 Hr3 Hd0 Hd1 Hd2 Hd3 Hzb]
  · isplitl [Hr0 Hr1 Hr2 Hr3]
    · isplitl [Hr0]; · iexact Hr0
      isplitl [Hr1]; · iexact Hr1
      isplitl [Hr2] <;> iassumption
    isplitl [Hd0 Hd1 Hd2 Hd3]
    · isplitl [Hd0]; · iexact Hd0
      isplitl [Hd1]; · iexact Hd1
      isplitl [Hd2] <;> iassumption
    iexact Hzb
  icases He with ⟨HΦ, Hout⟩
  iapply Hk
  unfold bodyPost Dat.owesAt Pipeline.owesWithin clear
  rw [show (dats k m ρ 0 c).owed t₀.succ = 0 from rfl]
  isplitl [HΦ]; · iexact HΦ
  isplitl [Hcl]
  · icases Hcl with ⟨%W', HO⟩
    iexists W'
    isplitr; · ipureintro; exact fun _ _ => Or.inl trivial
    iexact HO
  isplitl [Hx]
  · iexists _; isplitr; · (ipureintro; rfl)
    iexact Hx
  isplitl [Ht]
  · iexists _; isplitr; · (ipureintro; rfl)
    iexact Ht
  ihave Ho := (Entails.of_eq (owns_whole_eq (c : Thread nD τ) cc0_stg2_0 fullShare (outAt k m ρ c))) $$ Hout
  iexact Ho

set_option maxRecDepth 4000 in
/-- The body obligation of the pipeline on device `c`. -/
theorem body_obligation (hm : Rolled k m) (c : Dev nD) : BodyObligation (dats (F := F) k m ρ 0 c) (defs₀ (F := F)) 𝒱₀ () Set.univ := fun t => by
  rw [fin_N t, bigSep_W0, bigSep_W0]
  simp only [owns_whole_eq]
  show bodyPre k m ρ c ⊢ run c (cc0_body xM (Memref.isWhole_whole _) tM (Memref.isWhole_whole _) oM (Memref.isWhole_whole _) sqM (Memref.isWhole_whole _)
          ssM (Memref.isWhole_whole _) rqM (Memref.isWhole_whole _) rsM (Memref.isWhole_whole _) cc0_scratch4 cc0_scratch5 cc0_scratch6 cc0_scratch7)
      (fun _ => bodyPost k m ρ c)
  iintro H
  iapply (sound_body k m ρ hm c fun _ => bodyPost k m ρ c)
  isplitl [H]; · iexact H
  iintro H; iexact H

end Cert.KernelIdeal.Shuffle

end
-- ==== Proof.IdealLaunch.lean ====
/-
# The launch

What the mesh starts from is dealt to the devices: each device's own semaphores at zero become its cells, the duties go
to the devices that pay them, and the credit of what is owed to a device's cells goes to that device. The launch theorem
of the pipeline then gives the run: every device's result array ends holding the result and every counter ends at zero.
-/
module

public import proofs.«01_k».proof.Proof.IdealBody
public import Idealize.ShloMosaic.Lib.Pipeline.CollectiveSegs

@[expose] public section

noncomputable section

namespace Cert.KernelIdeal.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (k : Fin 4) (m : (ℓ : Loc nD τ sig) → Buf (Elt F) ℓ) (ρ : Dev nD → PrngReg)

/-- The kernel's own semaphores: the sixteen of the copies. -/
abbrev osem : Fin 4 × Fin 4 → SemLoc sig := fun p => .dma (sm p.1 p.2)

theorem ownSemFacts : Pipeline.OwnSemFacts cfg0.spec osem := by decide

theorem share_eq (c : Dev nD) (w : Fin cfg0.W) : (dats k m ρ 0 c).share w = fullShare := by unfold Dat.share; split <;> rfl

/-! ## Cells and duties -/

abbrev cellAt (ci : Dev nD × CI) : GSem nD τ sig := cell ci.1 ci.2
theorem cellAt_injective : Function.Injective cellAt := fun a b h => Prod.ext (cell_eq_iff.mp h).1 (cell_eq_iff.mp h).2
def cells : Finset (GSem nD τ sig) := Finset.univ.map ⟨cellAt, cellAt_injective⟩

/-- The duties of a device's own cells: two of its barrier cell, one of each copy's cell. -/
abbrev TI : Type := Bool ⊕ (Fin 4 × Fin 4)
def dutyOf : TI → CI × Bool := fun | .inl b => (.inl (), b) | .inr p => (.inr p, false)
theorem dutyOf_injective : Function.Injective dutyOf := by decide
def tokOf (ct : Dev nD × TI) : GSem nD τ sig × ℕ × Bool := (cell ct.1 (dutyOf ct.2).1, 0, (dutyOf ct.2).2)
theorem tokOf_injective : Function.Injective tokOf := fun a b h => by
  have h1 : cell a.1 (dutyOf a.2).1 = cell b.1 (dutyOf b.2).1 := congrArg Prod.fst h
  have h2 : (dutyOf a.2).2 = (dutyOf b.2).2 := congrArg (fun x => x.2.2) h
  exact Prod.ext (cell_eq_iff.mp h1).1 (dutyOf_injective (Prod.ext (cell_eq_iff.mp h1).2 h2))
def tokens : Finset (GSem nD τ sig × ℕ × Bool) := Finset.univ.map ⟨tokOf, tokOf_injective⟩

def u₀ : UU := (initOf (Pipeline.cells cfgs cellOf_inj) (Pipeline.launchToks cfgs cellOf_inj), initOf cells tokens)

/-- The duty tokens of device `c`'s own cells. -/
def toks (c : Dev nD) : sProp 𝕄 :=
  iprop((dutyTok ER (bar c) 0 false ∗ dutyTok ER (bar c) 0 true)
    ∗ (bigSep Finset.univ fun j : Fin 4 => dutyTok ER (dcell c 0 j) 0 false) ∗ (bigSep Finset.univ fun j : Fin 4 => dutyTok ER (dcell c 1 j) 0 false)
    ∗ (bigSep Finset.univ fun j : Fin 4 => dutyTok ER (dcell c 2 j) 0 false) ∗ bigSep Finset.univ fun j : Fin 4 => dutyTok ER (dcell c 3 j) 0 false)

omit [FloatOps F] in
/-- A family over a device's cells, the barrier's apart and the copies' by family. -/
theorem over_cells (Φ : CI → sProp 𝕄) :
    bigSep Finset.univ Φ = iprop(Φ (.inl ()) ∗ (bigSep Finset.univ fun j : Fin 4 => Φ (.inr (0, j))) ∗ (bigSep Finset.univ fun j : Fin 4 => Φ (.inr (1, j)))
      ∗ (bigSep Finset.univ fun j : Fin 4 => Φ (.inr (2, j))) ∗ bigSep Finset.univ fun j : Fin 4 => Φ (.inr (3, j))) := by
  rw [bigSep_univ_sum, bigSep_univ_prod, bigSep_univ_eq_bigSepL [(0 : Fin 4), 1, 2, 3] (by decide) (by decide),
    bigSep_univ_eq_bigSepL [()] (by decide) (by decide)]
  rfl

omit [FloatOps F] in
theorem toks_of (c : Dev nD) : (bigSep Finset.univ fun t : TI => (dutyTok ER (tokOf (c, t)).1 (tokOf (c, t)).2.1 (tokOf (c, t)).2.2 : sProp 𝕄)) = toks c := by
  rw [bigSep_univ_sum, bigSep_univ_prod, bigSep_univ_eq_bigSepL [(0 : Fin 4), 1, 2, 3] (by decide) (by decide),
    bigSep_univ_eq_bigSepL [false, true] (by decide) (by decide)]
  rfl

/-- What the launch deals device `c`. -/
def G (c : Dev nD) : sProp 𝕄 :=
  iprop((bigSep Finset.univ fun i : CI => roundState ER (Rd k m ρ) (cell c i) 0)
    ∗ (bigSep Finset.univ fun i : CI => iprop(atPos ER (cell c i) 0 ∅ 0 ∗ reached ER (cell c i) 0)) ∗ toks c)
/-- What it becomes once the cells of the whole mesh are made. -/
def G' (c : Dev nD) : sProp 𝕄 := iprop(∃ K, records k m ρ K ∗ linear k c)

theorem fund_cells : BI.own (ER (initOf cells tokens)) ⊢ (|==> bigSep Finset.univ (G k m ρ) : sProp 𝕄) := by
  have hX (Φ : GSem nD τ sig → sProp 𝕄) : bigSep cells Φ = bigSep Finset.univ fun c : Dev nD => bigSep Finset.univ fun i : CI => Φ (cell c i) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => toks_of c
  iintro HX
  imod (Rounds.fund ER (Rd k m ρ) cells tokens) $$ HX with ⟨Hst, Hr, Hat, Htok⟩
  imodintro
  ihave Hst' := (Entails.of_eq (hX fun g => roundState ER (Rd k m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the one semaphore not the kernel's own. -/
theorem unscopedSems0_eq (c : Dev nD) : (unscopedSems0 c : sProp 𝕄) = semVal (bar c) 0 := by
  unfold unscopedSems0; rw [bigSep_eq_bigSepL_of_eq [SemLoc.reg barS] (by decide) (by decide)]; rfl

omit [FloatOps F] in
theorem sems_eq (c : Dev nD) :
    iprop(Pipeline.ownSems0 (Ix := Unit) (Name := ℕ) (U := UU) (Lvl := ℕ) (Val := Elt F) (τ := τ) osem c ∗ unscopedSems0 c)
      = iprop((bigSep Finset.univ fun p : Fin 4 × Fin 4 => semVal (dcell c p.1 p.2) 0) ∗ semVal (bar c) 0 : sProp 𝕄) := by
  rw [unscopedSems0_eq]; rfl

omit [FloatOps F] in
theorem sems_cells (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (cell c i) 0 : sProp 𝕄) := by
  rw [sems_eq, bigSep_univ_sum, bigSep_univ_eq_bigSepL [()] (by decide) (by decide)]
  show _ ⊢ iprop(semVal (bar c) 0 ∗ bigSep Finset.univ fun p : Fin 4 × Fin 4 => semVal (dcell c p.1 p.2) 0)
  iintro ⟨H, Hb⟩
  isplitl [Hb] <;> iassumption

theorem core_alloc (c : Dev nD) :
    iprop(Pipeline.ownSems0 (Ix := Unit) (Name := ℕ) (U := UU) (Lvl := ℕ) (Val := Elt F) (τ := τ) osem c ∗ unscopedSems0 c ∗ G k m ρ c)
      ⊢ |={Set.univ}=> iprop((bigSep Finset.univ fun i : CI => iprop(∃ κ : ℕ, cellInv ER (Rd k m ρ) κ (cell c i)))
          ∗ (bigSep Finset.univ fun i : CI => iprop(atPos ER (cell c i) 0 ∅ 0 ∗ reached ER (cell c i) 0)) ∗ toks c) := by
  unfold G
  iintro ⟨Hos, Hus, Hst, Hat, Htok⟩
  ihave Hv := (sems_cells (F := F) c) $$ [Hos Hus]
  · isplitl [Hos] <;> iassumption
  imod (show iprop((bigSep Finset.univ fun i : CI => semVal (cell c i) 0) ∗ bigSep Finset.univ fun i : CI => roundState ER (Rd k m ρ) (cell c i) 0)
      ⊢ (|={Set.univ}=> bigSep Finset.univ fun i : CI => iprop(∃ κ : ℕ, cellInv ER (Rd k m ρ) κ (cell c i)) : sProp 𝕄) from by
        rw [← bigSep_sep']
        exact (bigSep_mono fun i _ => (Rounds.body_intro ER (Rd k m ρ) (cell c i)).trans inv_alloc).trans (bigSep_fupd _ _)) $$ [Hv Hst] with Hinv
  · isplitl [Hv] <;> iassumption
  imodintro
  isplitl [Hinv]; · iexact Hinv
  isplitl [Hat]; · iexact Hat
  iexact Htok

/-- The duties that device `c` pays. -/
def payToks (c : Dev nD) : sProp 𝕄 :=
  iprop(dutyTok ER (bar (nxt k c)) 0 false ∗ dutyTok ER (bar (prv k c)) 0 true ∗ bigSep Finset.univ fun j => pays k c j)

omit [FloatOps F] in
/-- The duty tokens go to the devices that pay them: a barrier's first and the receive cells' to the sender, a barrier's
    second to the receiver. -/
theorem toks_around : (bigSep Finset.univ fun c : Dev nD => (toks c : sProp 𝕄)) ⊢ bigSep Finset.univ fun c : Dev nD => payToks k c := by
  unfold toks payToks pays
  simp only [bigSep_sep']
  rw [bigSep_univ_equiv (around k) (fun c : Dev nD => (dutyTok ER (bar c) 0 false : sProp 𝕄)),
    bigSep_univ_equiv (around k).symm (fun c : Dev nD => (dutyTok ER (bar c) 0 true : sProp 𝕄)),
    bigSep_univ_equiv (around k) (fun c : Dev nD => (bigSep Finset.univ fun j : Fin 4 => dutyTok ER (dcell c 1 j) 0 false : sProp 𝕄)),
    bigSep_univ_equiv (around k) (fun c : Dev nD => (bigSep Finset.univ fun j : Fin 4 => dutyTok ER (dcell c 3 j) 0 false : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

omit [FloatOps F] in
/-- A device's positions, by pieces. -/
theorem positions (c : Dev nD) :
    (bigSep Finset.univ fun i : CI => (atPos ER (cell c i) 0 ∅ 0 : sProp 𝕄)) = iprop(atPos ER (bar c) 0 ∅ 0 ∗ bigSep Finset.univ fun j => poss c j) := by
  rw [over_cells]; unfold poss; simp only [bigSep_sep']; rfl

omit [FloatOps F] in
/-- A persistent assertion goes to every member of a family. -/
theorem to_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd k m ρ) κ (cell c i)))
          ∗ (bigSep Finset.univ fun i : CI => iprop(atPos ER (cell c i) 0 ∅ 0 ∗ reached ER (cell c i) 0)) ∗ toks c) : sProp 𝕄)
      ⊢ bigSep Finset.univ (G' k m ρ) := by
  rw [bigSep_sep', bigSep_sep', ← bigSep_univ_prod (fun ci : Dev nD × CI => iprop(∃ κ : ℕ, cellInv ER (Rd k m ρ) κ (cell ci.1 ci.2))),
    bigSep_congr (s := Finset.univ) (fun (c : Dev nD) _ => bigSep_sep' Finset.univ (fun i : CI => (atPos ER (cell c i) 0 ∅ 0 : sProp 𝕄)) (fun i => reached ER (cell c i) 0)),
    bigSep_sep', ← bigSep_univ_prod (fun ci : Dev nD × CI => (reached ER (cell ci.1 ci.2) 0 : sProp 𝕄))]
  iintro ⟨HI, ⟨Hat, #HR⟩, Htok⟩
  ihave HK := (BI.bigSep_exists_pi Finset.univ (fun (ci : Dev nD × CI) (κ : ℕ) => (cellInv ER (Rd k m ρ) κ (cell ci.1 ci.2) : sProp 𝕄))) $$ HI
  icases HK with ⟨%K, #HI⟩
  ihave Htk := (toks_around (F := F) k) $$ Htok
  have h : ∀ c ∈ (Finset.univ : Finset (Dev nD)), iprop(records k m ρ K ∗ linear (F := F) k c) ⊢ G' k m ρ c := fun c _ => by
    unfold G'; iintro H; iexists K; iexact H
  iapply (to_all h)
  isplitr
  · unfold records; isplitl; · iexact HI
    iexact HR
  · iapply ((Entails.of_eq (bigSep_sep' Finset.univ (fun c : Dev nD => bigSep Finset.univ fun i : CI => (atPos ER (cell c i) 0 ∅ 0 : sProp 𝕄)) (payToks k)).symm).trans
      (bigSep_mono fun c _ => show _ ⊢ linear k c from Entails.of_eq (by unfold linear payToks; rw [positions])))
    isplitl [Hat]; · iexact Hat
    iexact Htk

/-- Every device's semaphores and share at once become what the devices start from. -/
theorem glob : (bigSep Finset.univ fun c => iprop(Pipeline.ownSems0 (Ix := Unit) (Name := ℕ) (U := UU) (Lvl := ℕ) (Val := Elt F) (τ := τ) osem c ∗ unscopedSems0 c ∗ G k m ρ c) : sProp 𝕄)
    ⊢ |={Set.univ}=> bigSep Finset.univ (G' k m ρ) :=
  ((bigSep_mono fun c _ => core_alloc k m ρ c).trans (bigSep_fupd _ _)).trans (BI.fupd_mono (regroup k m ρ))

/-! ## The launch credit -/

theorem dcell_eq_iff {c c' : Dev nD} {f f' j j' : Fin 4} : Iff (dcell c f j = dcell c' f' j') (c = c' ∧ f = f' ∧ j = j') :=
  ⟨fun h => by
      have h' := (cell_eq_iff (i := .inr (f, j)) (i' := .inr (f', j'))).mp h
      exact ⟨h'.1, congrArg Prod.fst (Sum.inr.inj h'.2), congrArg Prod.snd (Sum.inr.inj h'.2)⟩,
    fun ⟨h, h', h''⟩ => h ▸ h' ▸ h'' ▸ rfl⟩
theorem bar_eq_iff {c c' : Dev nD} : Iff (bar c = bar c') (c = c') :=
  ⟨fun h => ((cell_eq_iff (i := .inl ()) (i' := .inl ())).mp h).1, fun h => h ▸ rfl⟩
theorem bar_ne_dcell (c c' : Dev nD) (f j : Fin 4) : bar c ≠ dcell c' f j := fun h => by
  cases ((cell_eq_iff (i := .inl ()) (i' := .inr (f, j))).mp h).2
theorem eq_nxt_iff (d c : Dev nD) : Iff (c = nxt k d) (d = prv k c) :=
  ⟨fun h => by rw [h, prv_nxt], fun h => by rw [h, nxt_prv]⟩
theorem eq_prv_iff (d c : Dev nD) : Iff (c = prv k d) (d = nxt k c) :=
  ⟨fun h => by rw [h, nxt_prv], fun h => by rw [h, prv_nxt]⟩

/-- What device `d` owes device `c`'s barrier cell, -/
theorem owed_bar (d c : Dev nD) : O₀ k d (bar c) () = (if d = nxt k c then 1 else 0) + (if d = prv k c then 1 else 0) := by
  unfold O₀ Ob
  rw [Pi.add_apply, Finsupp.add_apply, Pi.add_apply, Finsupp.add_apply, tallyAt_apply, tallyAt_apply, Oc_apply,
    Finset.sum_eq_zero fun j _ => by rw [if_neg (bar_ne_dcell _ _ _ _), if_neg (bar_ne_dcell _ _ _ _), Nat.add_zero], Nat.zero_add]
  simp only [bar_eq_iff, _root_.and_true]
  rw [if_congr (eq_prv_iff k d c) rfl rfl, if_congr (eq_nxt_iff k d c) rfl rfl]
/-- and its receive cells. -/
theorem owed_rows (d c : Dev nD) (j : Fin 4) : O₀ k d (dcell c 1 j) () = if d = prv k c then NQ else 0 := by
  unfold O₀ Ob
  rw [Pi.add_apply, Finsupp.add_apply, Pi.add_apply, Finsupp.add_apply, tallyAt_apply, tallyAt_apply, Oc_apply,
    if_neg (fun h => bar_ne_dcell _ _ _ _ h.1.symm), if_neg (fun h => bar_ne_dcell _ _ _ _ h.1.symm)]
  simp only [dcell_eq_iff, eq_nxt_iff, Nat.add_zero]
  rw [Finset.sum_eq_single j (fun j' _ h => by rw [if_neg (fun h' => absurd h'.2.1 (by decide)), if_neg (fun h' => h h'.2.2.symm), Nat.add_zero])
    (fun h => absurd (Finset.mem_univ j) h), if_neg (fun h' => absurd h'.2.1 (by decide)), Nat.zero_add]
  simp only [_root_.and_true]
theorem owed_scales (d c : Dev nD) (j : Fin 4) : O₀ k d (dcell c 3 j) () = if d = prv k c then NS else 0 := by
  unfold O₀ Ob
  rw [Pi.add_apply, Finsupp.add_apply, Pi.add_apply, Finsupp.add_apply, tallyAt_apply, tallyAt_apply, Oc_apply,
    if_neg (fun h => bar_ne_dcell _ _ _ _ h.1.symm), if_neg (fun h => bar_ne_dcell _ _ _ _ h.1.symm)]
  simp only [dcell_eq_iff, eq_nxt_iff, Nat.add_zero]
  rw [Finset.sum_eq_single j (fun j' _ h => by rw [if_neg (fun h' => h h'.2.2.symm), if_neg (fun h' => absurd h'.2.1 (by decide)), Nat.add_zero])
    (fun h => absurd (Finset.mem_univ j) h), if_neg (fun h' : d = prv k c ∧ (3 : Fin 4) = 1 ∧ j = j => absurd h'.2.1 (by decide)), Nat.add_zero]
  simp only [_root_.and_true]

/-- So the launch credits a cell of device `c` with what is owed to it. -/
theorem launch_bar (c : Dev nD) :
    tallyOn (bar c) (launchCredit (Pipeline.owing (O₀ k)) 0 (bar c)) = (tallyAt (bar c) () 2 : CellTallies nD τ sig Unit) := by
  unfold tallyAt; refine congrArg _ (Finsupp.ext fun u => ?_); cases u
  rw [Pipeline.launchCredit_owing, Finsupp.single_eq_same, Finset.sum_congr rfl fun d _ => owed_bar k d c, Finset.sum_add_distrib,
    Finset.sum_ite_eq' Finset.univ (nxt k c) fun _ => 1, Finset.sum_ite_eq' Finset.univ (prv k c) fun _ => 1, if_pos (Finset.mem_univ _), if_pos (Finset.mem_univ _)]
theorem launch_rows (c : Dev nD) (j : Fin 4) :
    tallyOn (dcell c 1 j) (launchCredit (Pipeline.owing (O₀ k)) 0 (dcell c 1 j)) = (tallyAt (dcell c 1 j) () NQ : CellTallies nD τ sig Unit) := by
  unfold tallyAt; refine congrArg _ (Finsupp.ext fun u => ?_); cases u
  rw [Pipeline.launchCredit_owing, Finsupp.single_eq_same, Finset.sum_congr rfl fun d _ => owed_rows k d c j,
    Finset.sum_ite_eq' Finset.univ (prv k c) fun _ => NQ, if_pos (Finset.mem_univ _)]
theorem launch_scales (c : Dev nD) (j : Fin 4) :
    tallyOn (dcell c 3 j) (launchCredit (Pipeline.owing (O₀ k)) 0 (dcell c 3 j)) = (tallyAt (dcell c 3 j) () NS : CellTallies nD τ sig Unit) := by
  unfold tallyAt; refine congrArg _ (Finsupp.ext fun u => ?_); cases u
  rw [Pipeline.launchCredit_owing, Finsupp.single_eq_same, Finset.sum_congr rfl fun d _ => owed_scales k d c j,
    Finset.sum_ite_eq' Finset.univ (prv k c) fun _ => NS, if_pos (Finset.mem_univ _)]

omit [FloatOps F] in
theorem creds (c : Dev nD) : (Pipeline.launchCred (O₀ k) c : sProp 𝕄) ⊢ credits c := by
  unfold Pipeline.launchCred
  refine (bigSep_subset (Finset.subset_univ (Finset.univ.map ⟨csem, csem_injective⟩))).trans ?_
  rw [bigSep_map, over_cells]
  unfold credits
  rw [bigSep_sep', ← launch_bar k c, bigSep_congr (s := Finset.univ) fun (j : Fin 4) _ => congrArg cred (launch_rows k c j).symm,
    bigSep_congr (s := Finset.univ) fun (j : Fin 4) _ => congrArg cred (launch_scales k c j).symm]
  show iprop(cred _ ∗ _ ∗ (bigSep Finset.univ fun j : Fin 4 => cred _) ∗ _ ∗ bigSep Finset.univ fun j : Fin 4 => cred _) ⊢ iprop(cred _ ∗ (bigSep Finset.univ fun j : Fin 4 => cred _) ∗ bigSep Finset.univ fun j : Fin 4 => cred _)
  iintro ⟨Hb, -, H1, -, H3⟩
  isplitl [Hb]; · iexact Hb
  isplitl [H1]; · iexact H1
  iexact H3

/-! ## The run -/

theorem start_intro (c : Dev nD) :
    iprop(Pipeline.unscopedRestP Pipeline.Prefetch.none cfg0.spec c (fun b => m ((c : Thread nD τ).loc b)) ∗ levAts L lv
        ∗ Pipeline.launchCred (O₀ k) c ∗ prngReg c (ρ c) ∗ G' k m ρ c)
      ⊢ |={Set.univ}=> iprop(start k m ρ c ∗ emp) := by
  iintro ⟨-, Hlev, Hcr, -, HG⟩
  ihave Hc := (creds (F := F) k c) $$ Hcr
  imodintro
  unfold start G'
  isplitl
  · isplitl [HG]; · iexact HG
    isplitl [Hc]; · iexact Hc
    iexact Hlev
  · iempintro

omit [FloatOps F] in
/-- A buffer held whole. -/
theorem hold_whole (c : Dev nD) {sh : Shape} {e : EltTy} (M : Memref sig .tc .vmem sh e) (h : M.view.set = Finset.univ) :
    (hold c M : sProp 𝕄) = iprop(∃ f : Buf (Elt F) (M.view.loc (c : Thread nD τ)), M.view.loc (c : Thread nD τ) ↦{fullShare} f) := by
  unfold hold; rw [h]

theorem scratch_eq (c : Dev nD) : (Pipeline.scopedRest (Ix := Unit) (Name := ℕ) (U := UU) (Lvl := ℕ) (Val := Elt F) cfg0.spec c : sProp 𝕄) = scratch c := by
  rw [scopedRest0_eq]
  unfold scratch
  rw [hold_whole c sqM (View.set_whole _), hold_whole c ssM (View.set_whole _), hold_whole c rqM (View.set_whole _), hold_whole c rsM (View.set_whole _)]

theorem phi0_intro (c : Dev nD) :
    iprop(start k m ρ c ∗ Pipeline.prefHeld Pipeline.Prefetch.none c (fun _ => fullShare.right) (fun k => k.elim0) ∗ Pipeline.scopedRest cfg0.spec c)
      ⊢ (dats k m ρ 0 c).Φ 0 := by
  rw [show (dats k m ρ 0 c).Φ 0 = Φ₀ k m ρ c from rfl, scratch_eq]
  unfold Φ₀
  iintro ⟨Hs, -, Hr⟩
  isplitl [Hs] <;> iassumption

omit [FloatOps F] in
theorem own_zeros (c : Dev nD) :
    iprop((bigSep Finset.univ fun j : Fin 4 => semVal (dcell c 0 j) 0) ∗ (bigSep Finset.univ fun j : Fin 4 => semVal (dcell c 1 j) 0)
        ∗ (bigSep Finset.univ fun j : Fin 4 => semVal (dcell c 2 j) 0) ∗ bigSep Finset.univ fun j : Fin 4 => semVal (dcell c 3 j) 0)
      ⊢ (Pipeline.ownSems0 (Ix := Unit) (Name := ℕ) (U := UU) (Lvl := ℕ) (Val := Elt F) (τ := τ) osem c : sProp 𝕄) := by
  show _ ⊢ (bigSep Finset.univ fun p : Fin 4 × Fin 4 => semVal (dcell c p.1 p.2) 0 : sProp 𝕄)
  rw [bigSep_univ_prod]
  exact Entails.of_eq (bigSep_univ_eq_bigSepL [(0 : Fin 4), 1, 2, 3] (by decide) (by decide)
    (fun f : Fin 4 => (bigSep Finset.univ fun j : Fin 4 => semVal (dcell c f j) 0 : sProp 𝕄))).symm

theorem phi1_exit (c : Dev nD) :
    (dats k m ρ 0 c).Φ (Fin.last cfg0.N) ⊢ iprop(unscopedSems0 c ∗ Pipeline.ownSems0 osem c ∗ Pipeline.scopedRest cfg0.spec c) := by
  rw [show (dats k m ρ 0 c).Φ (Fin.last cfg0.N) = Φ₁ c from rfl, scratch_eq, unscopedSems0_eq]
  unfold Φ₁ zeros
  rw [bigSep_sep', bigSep_sep', bigSep_sep']
  iintro ⟨Hr, Hb, H0, H1, H2, H3⟩
  isplitl [Hb]; · iexact Hb
  isplitr [Hr]
  · iapply (own_zeros (F := F) c)
    isplitl [H0]; · iexact H0
    isplitl [H1]; · iexact H1
    isplitl [H2] <;> iassumption
  iexact Hr

omit [FloatOps F] in
theorem lvs_stage (q : DmaSem sig) (h : ∀ j, q ≠ sm 3 j ∧ q ≠ sm 1 j) : lvs (.dma q) = 0 := by
  unfold lvs
  rw [if_neg (fun ⟨j, h'⟩ => by rcases h' with h' | h'; · exact (h j).1 (SemLoc.dma.inj h')
                                · exact (h j).2 (SemLoc.dma.inj h')), if_neg (fun h' => by cases h')]

theorem waits (c : Dev nD) : (levAts L lv : sProp 𝕄) ⊢ Pipeline.cellsWaits cfgs (dats k m ρ) () 0 c :=
  Pipeline.cellsWaits_intro cfgs (dats k m ρ) () 0 c fun w s t =>
    mayWait_low k c _ (lvs_stage _ (by fin_cases w <;> fin_cases s <;> decide)) _ (by
      rcases t with ⟨_ | _, ht⟩
      · exact Or.inl rfl
      · exact Or.inr rfl)

/-- What window `w`'s array holds after the run. -/
def finalA (c : Dev nD) (w : Fin cfg0.W) : Buf (Elt F) ((cfg0.win w).arr.view.loc (c : Thread nD τ)) := (dats k m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA k m ρ c w

set_option maxRecDepth 8000 in
/-- With the table of a roll on every device, from any memory with zero counters, every weakly fair execution terminates,
    and every final state has each window's array at the computed contents and every semaphore counter at zero. -/
theorem run_main (hm : Rolled k m) : θ_run defs (onTc (τ := τ) (main (F := F))) (s₀ m ρ) (fun r => QC k m ρ r ∧ r.2.sem = fun _ => 0) :=
  Pipeline.θ_run_region_owing_glob_pf (fun p => (cfgs p).toPCfg) (fun p => (cfgs p).toPCfg_adm) (dats k m ρ) () cellOf_inj (0 : Fin 1)
    winFacts0.to₀ ownSemFacts (Pipeline.PreFacts.none _) EP defs₀ 𝒱₀ m ρ main
    (hmain := fun _ => rfl)
    (hbody := body_obligation k m ρ hm) (hne := fun w => by fin_cases w <;> exact Nat.succ_pos _) (harr := arr_whole0) (hstage := stage_whole0) (hshare := share_eq k m ρ)
    (hdistinct := winFacts0.arr_inj)
    (O₀ := O₀ k) (howed₀ := fun _ => rfl) (howedN := fun _ => rfl)
    (L := L) (lv := lv) (hL := L_of_ne) (hwaits := waits k m ρ)
    (G := G k m ρ) (G' := G' k m ρ) (u₀ := u₀)
    (hu₀ := by
      unfold u₀
      iintro Hu
      ihave H := (ownU_pair _ _) $$ Hu
      icases H with ⟨HP, HX⟩
      imod (fund_cells k m ρ) $$ HX with HG
      imodintro
      isplitl [HP] <;> iassumption)
    (hglob := glob k m ρ)
    (hA := fun _ _ => rfl) (hpf := fun _ k => k.elim0)
    (X := start k m ρ) (Y := fun c => unscopedSems0 c) (Z := fun _ => iprop(emp))
    (hX := start_intro k m ρ) (hin := phi0_intro k m ρ) (hout := phi1_exit k m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they were; -/
theorem finalA_x (c : Dev nD) : finalA k m ρ c (0 : Fin 3) = m ((c : Thread nD τ).loc main_arg0) := (dats (F := F) k m ρ 0 c).arrAt_in (0 : Fin 3) rfl _
theorem finalA_table (c : Dev nD) : finalA k m ρ c (1 : Fin 3) = m ((c : Thread nD τ).loc main_arg1) := (dats (F := F) k m ρ 0 c).arrAt_in (1 : Fin 3) rfl _

/-- the one block of a whole-array window is the array, -/
theorem xstg_eq (c : Dev nD) : xstg m ρ c = m ((c : Thread nD τ).loc main_arg0) :=
  Memref.read_access_unit_zero (Elt F) main_arg0 (funext fun a => by fin_cases a <;> decide) (fun a => by fin_cases a <;> decide) _
/-- and the result array ends holding the result. -/
theorem finalA_out (c : Dev nD) : finalA k m ρ c (2 : Fin 3) = outAt k m ρ c := by
  have h : (win0_2.blk (0 : Fin 1)).view.read (Elt F) (finalA k m ρ c (2 : Fin 3)) = outAt k m ρ c := by
    unfold finalA
    rw [show cfg0.N = ((0 : Fin 1) : Fin cfg0.N).val + 1 from rfl, (dats k m ρ 0 c).arrAt_succ (2 : Fin 3) (0 : Fin 1), if_pos (flush0_2 (0 : Fin 1))]
    exact View.read_write_univ _ _
  exact (Memref.read_access_unit_zero (Elt F) main_v1 (funext fun a => by fin_cases a <;> decide) (fun a => by fin_cases a <;> decide) _).symm.trans h

end Cert.KernelIdeal.Shuffle

end
-- ==== Proof.Entry.lean ====
/-
# One entry: quantised to eight bits and made again

A row of extended reals is quantised with the scale that its greatest magnitude gives, or `1e-30` if that is greater.
Kernel and reference quantise one entry by different conversions: straight to eight bits, saturating, and to
thirty-two bits of which the low eight are kept. They agree because the scaled entry never exceeds 127 in magnitude,
whatever the row holds, an infinity included.
-/
module

public import Idealize.ShloMosaic.PureOps.Ideal
public import Idealize.ShloMosaic.PureOps.Ideal.Laws

@[expose] public section

noncomputable section

namespace Cert.Entry

open Idealize.ShloMosaic

/-- The greatest magnitude in a row, or `1e-30` if that is greater. -/
def amax (row : Fin 512 → EReal) : EReal :=
  max ((Finset.univ : Finset (Fin 512)).fold max (Ideal.ofBits .f32 0xFF800000#32) fun l => max (row l) (-row l)) (Ideal.ofBits .f32 0x0DA24260#32)

/-- Entry `l` of the row, scaled so that the row's greatest magnitude becomes 127. -/
def scaled (row : Fin 512 → EReal) (l : Fin 512) : EReal := row l * Ideal.div (Ideal.ofBits .f32 0x42FE0000#32) (amax row)

/-- An extended real rounded to the nearest integer, ties to even. -/
def rounded (u : EReal) : EReal := Ideal.liftRound Ideal.roundHalfEven u

/-- Entry `l` of the row, quantised straight to eight bits, and made again. -/
def entry (row : Fin 512 → EReal) (l : Fin 512) : EReal :=
  (((Ideal.fptosi 8 (rounded (scaled row l))).toInt : ℝ) : EReal) * (amax row * Ideal.ofBits .f32 0x3C010204#32)

/-- The pattern `0x42FE0000` is 127. -/
theorem word_127 : Ideal.ofBits .f32 0x42FE0000#32 = ((127 : ℝ) : EReal) := by
  simp [Ideal.ofBits, Ideal.ieee, -EReal.coe_mul]; norm_num

/-- The pattern `0x0DA24260`, about `1e-30`, is positive. -/
theorem word_tiny_pos : (0 : EReal) < Ideal.ofBits .f32 0x0DA24260#32 := by
  have h : Ideal.ofBits .f32 0x0DA24260#32 = (((2 ^ 23 + 2245216 : ℕ) * (2 : ℝ) ^ (-123 : ℤ) : ℝ) : EReal) := by
    simp [Ideal.ofBits, Ideal.ieee, -EReal.coe_mul]
  rw [h]
  exact_mod_cast (by positivity : (0 : ℝ) < (2 ^ 23 + 2245216 : ℕ) * (2 : ℝ) ^ (-123 : ℤ))

theorem amax_pos (row : Fin 512 → EReal) : 0 < amax row := lt_of_lt_of_le word_tiny_pos (le_max_right _ _)

/-- No entry of a row is greater in magnitude than the row's greatest. -/
theorem le_amax (row : Fin 512 → EReal) (l : Fin 512) : max (row l) (-row l) ≤ amax row :=
  le_trans (Finset.le_fold_max _ |>.mpr (Or.inr ⟨l, Finset.mem_univ l, le_rfl⟩)) (le_max_left _ _)

/-- The scaled entry is a real number of magnitude at most 127. -/
theorem scaled_real (row : Fin 512 → EReal) (l : Fin 512) : ∃ r : ℝ, scaled row l = (r : EReal) ∧ |r| ≤ 127 := by
  have hp := amax_pos row
  have hle := le_amax row l
  unfold scaled
  rw [word_127]
  generalize hA : amax row = A at hp hle ⊢
  generalize row l = x at hle ⊢
  induction A using EReal.rec with
  | bot => exact absurd hp (by simp)
  | top => exact ⟨0, by simp [Ideal.div], by norm_num⟩
  | coe a =>
    have ha : (0 : ℝ) < a := by exact_mod_cast hp
    have h1 : x ≤ (a : EReal) := le_trans (le_max_left _ _) hle
    have h2 : -x ≤ (a : EReal) := le_trans (le_max_right _ _) hle
    induction x using EReal.rec with
    | bot => exact absurd h2 (by simp)
    | top => exact absurd h1 (by simp)
    | coe b =>
      have hb1 : b ≤ a := by exact_mod_cast h1
      have hb2 : -b ≤ a := by exact_mod_cast h2
      refine ⟨b * (127 * (1 / a)), ?_, ?_⟩
      · rw [Ideal.div_coe ha.ne', EReal.coe_mul, EReal.coe_mul]
      · have : b * (127 * (1 / a)) = 127 * (b / a) := by field_simp
        rw [this, abs_mul, abs_div, abs_of_pos ha, abs_of_pos (by norm_num : (0 : ℝ) < 127)]
        have hab : |b| / a ≤ 1 := (div_le_one ha).mpr (abs_le.mpr ⟨by linarith, hb1⟩)
        linarith

/-- A real of magnitude at most 127 rounds to an integer of magnitude at most 127. -/
theorem round_bound (r : ℝ) (h : |r| ≤ 127) : -127 ≤ Ideal.roundHalfEven r ∧ Ideal.roundHalfEven r ≤ 127 := by
  obtain ⟨h1, h2⟩ := abs_le.mp h
  have hf1 : (-127 : ℤ) ≤ ⌊r⌋ := Int.le_floor.mpr (by push_cast; exact h1)
  have hf2 : ⌊r⌋ ≤ 127 := by
    have : (⌊r⌋ : ℝ) ≤ 127 := le_trans (Int.floor_le r) h2
    exact_mod_cast this
  have hf3 : 0 < r - ⌊r⌋ → ⌊r⌋ + 1 ≤ 127 := fun hlt => by
    have : (⌊r⌋ : ℝ) < 127 := by linarith
    have : ⌊r⌋ < 127 := by exact_mod_cast this
    omega
  unfold Ideal.roundHalfEven
  dsimp only
  split
  · exact ⟨hf1, hf2⟩
  · split
    · have := hf3 (by linarith); constructor <;> omega
    · split
      · exact ⟨hf1, hf2⟩
      · have := hf3 (by linarith); constructor <;> omega

/-- Straight to eight bits, or to thirty-two bits of which the low eight are kept: one integer, for a real of
    magnitude at most 127 rounded. -/
theorem convert_eq (r : ℝ) (h : |r| ≤ 127) :
    Ideal.fptosi 8 (rounded (r : EReal)) = (Ideal.fptosi 32 (rounded (r : EReal))).setWidth 8 := by
  obtain ⟨h1, h2⟩ := round_bound r h
  have hr : rounded (r : EReal) = (((Ideal.roundHalfEven r : ℤ) : ℝ) : EReal) := rfl
  rw [hr]
  generalize Ideal.roundHalfEven r = z at h1 h2
  have key : ∀ lo hi : ℤ, lo ≤ -127 → 127 ≤ hi → Ideal.toIntClamped lo hi (((z : ℤ) : ℝ) : EReal) = z := by
    intro lo hi hlo hhi
    rw [Ideal.toIntClamped_coe, Int.floor_intCast, Int.ceil_intCast, ite_self]
    omega
  unfold Ideal.fptosi
  rw [key _ _ (by norm_num) (by norm_num), key _ _ (by norm_num) (by norm_num)]
  have hz : ∃ n : ℕ, n < 255 ∧ z = (n : ℤ) - 127 := ⟨(z + 127).toNat, by omega, by omega⟩
  obtain ⟨n, hn, rfl⟩ := hz
  clear h1 h2 hr key
  revert n
  decide +kernel

/-- A word of eight bits widened to thirty-two denotes the same integer. -/
theorem widen_toInt (b : BitVec 8) : (b.signExtend 32).toInt = b.toInt := by
  rw [BitVec.toInt_signExtend_of_le (by norm_num)]

/-- The entry as the reference makes it: quantised to thirty-two bits of which the low eight are kept, widened
    again, and scaled back. -/
theorem entry_eq (row : Fin 512 → EReal) (l : Fin 512) :
    ((((Ideal.fptosi 32 (rounded (scaled row l))).setWidth 8).signExtend 32).toInt : ℝ) * (amax row * Ideal.ofBits .f32 0x3C010204#32)
      = entry row l := by
  obtain ⟨r, hr, h⟩ := scaled_real row l
  rw [widen_toInt, entry, hr, convert_eq r h]

end Cert.Entry

end
-- ==== Proof.IdealRows.lean ====
/-
# What one device's result holds, entry by entry

Read over the extended reals, every entry of a device's result is the entry at the same place of the sending device's
block, quantised with its row's scale and made again.
-/
module

public import proofs.«01_k».proof.Proof.IdealMesh
public import proofs.«01_k».proof.Proof.Entry
public import Idealize.ShloMosaic.Lib.Pipeline.Value

@[expose] public section

noncomputable section

namespace Cert.KernelIdeal.Shuffle

open Cert.KernelIdeal Cert.KernelIdeal.Gen
open Idealize.ShloMosaic Idealize.ShloMosaic.TcCoe

/-- Entry `l` of the row that index `i` of a piece lies in. -/
def rowIx (i : S1x128x512.Idx) (l : Fin 512) : S1x128x512.Idx := fun
  | 0 => i 0
  | 1 => i 1
  | 2 => l
/-- The place in its row of index `i`. -/
def col (i : S1x128x512.Idx) : Fin 512 := i 2
/-- The row of a piece, without the place in it; also with a place of its own of extent one. -/
def headIx (i : S1x128x512.Idx) : S1x128.Idx := fun
  | 0 => i 0
  | 1 => i 1
def unitIx (i : S1x128x512.Idx) : S1x128x1.Idx := fun
  | 0 => i 0
  | 1 => i 1
  | 2 => (0 : Fin 1)

/-- Row values cast to a column and laid along the row are read at the row. -/
theorem along_row (s : FVec Ideal S1x128 .f32) (i : S1x128x512.Idx) :
    broadcastTo S1x128x512 (shapeCast S1x128x1 s shapeCasts_S1x128_S1x128x1) broadcasts_S1x128x1_S1x128x512 i = s (headIx i) := by
  have h0 : (i 0).val < 1 := (i 0).isLt
  rw [broadcastTo_apply _ _ i (unitIx i) (fun a => by fin_cases a <;> first | rfl | (show (i 0).val = 0; omega)),
    shapeCast_apply _ _ (unitIx i) (headIx i) (by
      rw [Shape.rowMajor_val_two, Shape.rowMajor_val_three]
      show (i 0).val * 128 + (i 1).val = ((i 0).val * 128 + (i 1).val) * 1 + 0
      omega)]

/-- The greatest magnitude of a row as the kernel takes it. -/
theorem amax_row (v : FVec Ideal S1x128x512 .f32) (i : S1x128x512.Idx) :
    k0_pay2 (F := Ideal) v (headIx i) = Cert.Entry.amax fun l => v (rowIx i l) := by
  unfold k0_pay2 k0_pay1
  dsimp only
  rw [shapeCast_self]
  refine congrArg (fun t => max t (Ideal.ofBits .f32 0x0DA24260#32))
    ((Ideal.multiReduction_maximumf_single (absf v) 0xFF800000#32 reduces_S1x128x512_S1x128 (.inl rfl) rfl (headIx i)).trans ?_)
  refine Finset.fold_congr fun l _ => ?_
  have hl : reduces_S1x128x512_S1x128.lift (headIx i) l = rowIx i l := by
    funext a; fin_cases a <;> rfl
  show max (v (reduces_S1x128x512_S1x128.lift (headIx i) l)) (-v (reduces_S1x128x512_S1x128.lift (headIx i) l)) = _
  rw [hl]

/-- One piece quantised, sent with its scales and made again, entry by entry. -/
theorem piece_entry (v : FVec Ideal S1x128x512 .f32) (i : S1x128x512.Idx) :
    dequant (F := Ideal) (quant v) (scale v) i = Cert.Entry.entry (fun l => v (rowIx i l)) (col i) := by
  have hi : rowIx i (col i) = i := by funext a; fin_cases a <;> rfl
  have hq : quant (F := Ideal) v i = Ideal.fptosi 8 (Cert.Entry.rounded (Cert.Entry.scaled (fun l => v (rowIx i l)) (col i))) := by
    unfold quant k0_pay4 k0_pay1
    dsimp only
    rw [shapeCast_self (s := S1x128x512) (α := BitVec 8), shapeCast_self (s := S1x128x512) (α := EReal) v]
    have hd : divf (F := Ideal) (φ := .f32) (broadcast S1x128 (Scalar.ofBits (F := Ideal) .f32 0x42FE0000#32)) (k0_pay2 (F := Ideal) v) (headIx i)
        = Ideal.div (Ideal.ofBits .f32 0x42FE0000#32) (Cert.Entry.amax fun l => v (rowIx i l)) :=
by
      have h := amax_row v i
      unfold divf broadcast
      rw [h]
      rfl
    refine (congrArg (fun t => Ideal.fptosi 8 (Ideal.liftRound Ideal.roundHalfEven (v i * t))) ((along_row _ i).trans hd)).trans ?_
    unfold Cert.Entry.rounded Cert.Entry.scaled
    dsimp only
    rw [hi]
  have hs : scale (F := Ideal) v (headIx i) = Cert.Entry.amax (fun l => v (rowIx i l)) * Ideal.ofBits .f32 0x3C010204#32 := by
    unfold scale k0_pay3
    rw [shapeCast_self]
    show k0_pay2 (F := Ideal) v (headIx i) * Ideal.ofBits .f32 0x3C010204#32 = _
    rw [amax_row]
  unfold dequant k0_pay18
  refine (congrArg (fun t => (((quant (F := Ideal) v i).toInt : ℝ) : EReal) * t) (along_row _ i)).trans ?_
  rw [hq, hs]
  rfl

end Cert.KernelIdeal.Shuffle

end
-- ==== Proof.Reference.lean ====
/-
# What the reference computes

The reference quantises every row of `x` with its own scale, makes it again, and takes the blocks in the order that
sorts the table. Here its result is cut in these steps, and the rows are read entry by entry.
-/
module

public import proofs.«01_k».proof.Proof.Gen.ReferenceIdeal.Run
public import proofs.«01_k».proof.Proof.Entry
public import Idealize.ShloMosaic.Lib.KernelVsHost
public import Idealize.ShloMosaic.Lib.Pipeline.Value

@[expose] public section

noncomputable section

namespace Cert.ReferenceIdeal.Value

open Cert.ReferenceIdeal Cert.ReferenceIdeal.Gen
open Idealize.ShloMosaic Idealize.ShloMosaic.TcCoe Idealize.SL.Sem

/-! ## The reference's result in three steps -/

/-- Every row's greatest magnitude, or `1e-30` if that is greater. -/
def refAmax (x : FVec Ideal S4x512x512 .f32) : FVec Ideal S4x512 .f32 :=
  maximumf (Host.reduce FloatOps.maximumf (Host.absf x) (constant S_ .f32 0xFF800000#32) reducesTo_S4x512x512_S4x512_d2 h_S_) (broadcastInDim S4x512 ![] bcast_S_S4x512 (constant S_ .f32 0x0DA24260#32))

/-- Row values laid along their rows. -/
def refAlong (s : FVec Ideal S4x512 .f32) : FVec Ideal S4x512x512 .f32 :=
  broadcastInDim S4x512x512 ![0, 1, 2] bcast_S4x512x1_S4x512x512_0_1_2 (broadcastInDim S4x512x1 ![0, 1] bcast_S4x512_S4x512x1_0_1 s)

/-- Every row of `x` quantised and made again. -/
def refRows (x : FVec Ideal S4x512x512 .f32) : FVec Ideal S4x512x512 .f32 :=
  mulf (sitofp .f32 (extsi 32 (trunci 8 (fptosi 32 (Host.roundeven (mulf x (refAlong (Host.divf (broadcastInDim S4x512 ![] bcast_S_S4x512 (constant S_ .f32 0x42FE0000#32)) (refAmax x)))))) natLt_8_32) natLt_8_32))
    (refAlong (mulf (refAmax x) (broadcastInDim S4x512 ![] bcast_S_S4x512 (constant S_ .f32 0x3C010204#32))))

/-- The order that sorts the table, as the sort gives it and after a negative position would count from the end. -/
def refSort (t : IVec S4 32) : IVec S4 32 := (Host.sort2 S4 0 comparator_i32_i32_d0 t (iotaInDim S4 32 0)).2
def refOrder (t : IVec S4 32) : IVec S4 32 :=
  select (cmpi .slt (refSort t) (broadcastInDim S4 ![] bcast_S_S4 (constantI S_ 32 0#32))) (addi (refSort t) (broadcastInDim S4 ![] bcast_S_S4 (constantI S_ 32 4#32))) (refSort t)

/-- The reference's result: the blocks taken in that order. -/
def refOut (x : FVec Ideal S4x512x512 .f32) (t : IVec S4 32) : FVec Ideal S4x512x512 .bf16 :=
  truncf .bf16 (Host.gather gather_S4x512x512_S4x1_S4x512x512_12_0_n_n_0_1_1512512 (refRows x) (broadcastInDim S4x1 ![0] bcast_S4_S4x1_0 (refOrder t))) bitsLt_bf16_f32

/-- Every fair execution of the reference ends with that result, its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

/-! ## The rows -/

/-- Entry `l` of the row that index `i` lies in, the place of `i` in its row, and the row itself. -/
def rowIx (i : S4x512x512.Idx) (l : Fin 512) : S4x512x512.Idx := fun
  | 0 => i 0
  | 1 => i 1
  | 2 => l
def col (i : S4x512x512.Idx) : Fin 512 := i 2
def headIx (i : S4x512x512.Idx) : S4x512.Idx := fun
  | 0 => i 0
  | 1 => i 1
def unitIx (i : S4x512x512.Idx) : S4x512x1.Idx := fun
  | 0 => i 0
  | 1 => i 1
  | 2 => (0 : Fin 1)

theorem refAlong_apply (s : FVec Ideal S4x512 .f32) (i : S4x512x512.Idx) : refAlong s i = s (headIx i) := by
  unfold refAlong
  rw [broadcastInDim_apply _ _ _ i (unitIx i) (fun a => by fin_cases a <;> rfl),
    broadcastInDim_apply _ _ _ (unitIx i) (headIx i) (fun a => by fin_cases a <;> rfl)]

theorem reduces_rows : S4x512x512.Reduces [2] S4x512 := by decide

/-- The greatest magnitude of a row as the reference takes it. -/
theorem refAmax_apply (x : FVec Ideal S4x512x512 .f32) (i : S4x512x512.Idx) :
    refAmax x (headIx i) = Cert.Entry.amax fun l => x (rowIx i l) := by
  unfold refAmax
  rw [hostReduce_maximumf_eq_multiReduction (Host.absf x) 0xFF800000#32 reducesTo_S4x512x512_S4x512_d2 h_S_ reduces_rows (.inl rfl) rfl]
  refine congrArg (fun t => max t (Ideal.ofBits .f32 0x0DA24260#32))
    ((Ideal.multiReduction_maximumf_single (Host.absf x) 0xFF800000#32 reduces_rows (.inl rfl) rfl (headIx i)).trans ?_)
  refine Finset.fold_congr fun l _ => ?_
  have hl : reduces_rows.lift (headIx i) l = rowIx i l := by
    funext a; fin_cases a <;> rfl
  show max (x (reduces_rows.lift (headIx i) l)) (-x (reduces_rows.lift (headIx i) l)) = _
  rw [hl]

/-- Every entry of the rows made again is the entry at the same place, quantised with its row's scale. -/
theorem refRows_apply (x : FVec Ideal S4x512x512 .f32) (i : S4x512x512.Idx) :
    refRows x i = Cert.Entry.entry (fun l => x (rowIx i l)) (col i) := by
  have hi : rowIx i (col i) = i := by funext a; fin_cases a <;> rfl
  have hd : Host.divf (broadcastInDim S4x512 ![] bcast_S_S4x512 (constant (F := Ideal) S_ .f32 0x42FE0000#32)) (refAmax x) (headIx i)
      = Ideal.div (Ideal.ofBits .f32 0x42FE0000#32) (Cert.Entry.amax fun l => x (rowIx i l)) := by
    have h := refAmax_apply x i
    unfold Host.divf
    rw [h]
    rfl
  have hs : mulf (refAmax x) (broadcastInDim S4x512 ![] bcast_S_S4x512 (constant (F := Ideal) S_ .f32 0x3C010204#32)) (headIx i)
      = (Cert.Entry.amax fun l => x (rowIx i l)) * Ideal.ofBits .f32 0x3C010204#32 := by
    have h := refAmax_apply x i
    unfold mulf
    rw [h]
    rfl
  rw [← Cert.Entry.entry_eq]
  unfold Cert.Entry.scaled
  dsimp only
  rw [hi, ← hd, ← hs, ← refAlong_apply (Host.divf _ _) i, ← refAlong_apply (mulf _ _) i]
  rfl

end Cert.ReferenceIdeal.Value

end
-- ==== Proof.ReferenceOrder.lean ====
/-
# The order in which the reference takes the blocks

For a table that is the roll of `0 1 2 3` by `k` places, sorting it names block `(b + k) % 4` at position `b`. So the
block at position `b` of the reference's result is block `(b + k) % 4` of `x`, every row quantised and made again.
-/
module

public import proofs.«01_k».proof.Proof.Reference
public import Idealize.ShloMosaic.Lib.Pipeline.Value

@[expose] public section

noncomputable section

namespace Cert.ReferenceIdeal.Value

open Cert.ReferenceIdeal Cert.ReferenceIdeal.Gen
open Idealize.ShloMosaic Idealize.ShloMosaic.TcCoe Idealize.SL.Sem

/-! ## The order -/

/-- Position `b` of a table of four words as an index. -/
def ix4 (b : Fin 4) : S4.Idx := fun a => ⟨b.val, by fin_cases a; exact b.isLt⟩
/-- The same position of the table laid as a column. -/
def ix41 (b : Fin 4) : S4x1.Idx := fun
  | 0 => b
  | 1 => (0 : Fin 1)

/-- For the roll by `k`, the order is the roll back: position `b` names block `(b + k) % 4`. -/
theorem refOrder_roll (k : Fin 4) (t : IVec S4 32) (ht : ∀ j : S4.Idx, t j = BitVec.ofNat 32 (((j 0).val + (4 - k.val)) % 4)) (b : Fin 4) (j : S4.Idx) (hj : (j 0).val = b.val) :
    refOrder t j = BitVec.ofNat 32 ((b.val + k.val) % 4) := by
  obtain rfl : t = fun j => BitVec.ofNat 32 (((j 0).val + (4 - k.val)) % 4) := funext ht
  obtain rfl : j = ix4 b := funext fun a => by fin_cases a; exact Fin.ext hj
  revert k b
  decide +kernel

/-! ## The blocks in that order -/

/-- The place of index `i` in block `b`. -/
def inBlock (b : Fin 4) (i : S4x512x512.Idx) : S4x512x512.Idx := fun
  | 0 => b
  | 1 => i 1
  | 2 => i 2

/-- Taking the blocks by start positions reads, at an index of block `b`, the place of that index in the block
    named at `b`. -/
theorem gather_blocks {α : Type} (x : S4x512x512.Idx → α) (p : IVec S4x1 32) (i : S4x512x512.Idx) (b : Fin 4) (hb : (p (ix41 (i 0))).toInt.toNat = b.val) :
    Host.gather gather_S4x512x512_S4x1_S4x512x512_12_0_n_n_0_1_1512512 x p i = x (inBlock b i) := by
  unfold Host.gather
  refine congrArg x (funext fun a => Fin.ext ?_)
  show (gather_S4x512x512_S4x1_S4x512x512_12_0_n_n_0_1_1512512).start i p a + (gather_S4x512x512_S4x1_S4x512x512_12_0_n_n_0_1_1512512).batchCoord i a
    + (gather_S4x512x512_S4x1_S4x512x512_12_0_n_n_0_1_1512512).offCoord i a = _
  rw [GatherDims.batchCoord_eq_zero _ _ _ List.not_mem_nil, Nat.add_zero]
  have hb4 := b.isLt
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (gather_S4x512x512_S4x1_S4x512x512_12_0_n_n_0_1_1512512).startIndexMap from List.mem_singleton.mpr rfl)]
    have hs : (gather_S4x512x512_S4x1_S4x512x512_12_0_n_n_0_1_1512512).siIdx i ⟨List.idxOf (0 : Fin 3) (gather_S4x512x512_S4x1_S4x512x512_12_0_n_n_0_1_1512512).startIndexMap,
        List.idxOf_lt_length_iff.2 (List.mem_singleton.mpr rfl)⟩ = ix41 (i 0) := by
      funext e; fin_cases e <;> exact Fin.ext rfl
    rw [hs, hb]
    show min b.val (4 - 1) = b.val
    omega
  · unfold GatherDims.start
    rw [dif_neg (show (1 : Fin 3) ∉ (gather_S4x512x512_S4x1_S4x512x512_12_0_n_n_0_1_1512512).startIndexMap from fun h => absurd (List.mem_singleton.mp h) (by decide)), Nat.zero_add]
    rfl
  · unfold GatherDims.start
    rw [dif_neg (show (2 : Fin 3) ∉ (gather_S4x512x512_S4x1_S4x512x512_12_0_n_n_0_1_1512512).startIndexMap from fun h => absurd (List.mem_singleton.mp h) (by decide)), Nat.zero_add]
    rfl

/-- The block of `x` that the result holds at position `b`, for the roll by `k`. -/
def src (k b : Fin 4) : Fin 4 := ⟨(b.val + k.val) % 4, Nat.mod_lt _ (by decide)⟩

/-- The reference's result at an index of block `b`, for the roll by `k`: the entry at the same place of block
    `(b + k) % 4`, quantised with its row's scale and made again. -/
theorem refOut_apply (k : Fin 4) (x : FVec Ideal S4x512x512 .f32) (t : IVec S4 32) (ht : ∀ j : S4.Idx, t j = BitVec.ofNat 32 (((j 0).val + (4 - k.val)) % 4))
    (i : S4x512x512.Idx) :
    refOut x t i = Cert.Entry.entry (fun l => x (rowIx (inBlock (src k (i 0)) i) l)) (col i) := by
  show Host.gather gather_S4x512x512_S4x1_S4x512x512_12_0_n_n_0_1_1512512 (refRows x) (broadcastInDim S4x1 ![0] bcast_S4_S4x1_0 (refOrder t)) i = _
  have hp : (broadcastInDim S4x1 ![0] bcast_S4_S4x1_0 (refOrder t) (ix41 (i 0))).toInt.toNat = (src k (i 0)).val := by
    rw [broadcastInDim_apply _ _ _ (ix41 (i 0)) (ix4 (i 0)) (fun a => by fin_cases a; rfl), refOrder_roll k t ht (i 0) _ rfl]
    show (BitVec.ofNat 32 (src k (i 0)).val).toInt.toNat = (src k (i 0)).val
    generalize src k (i 0) = b
    revert b; decide
  rw [gather_blocks (refRows x) _ i (src k (i 0)) hp, refRows_apply]
  rfl

end Cert.ReferenceIdeal.Value

end
-- ==== Proof.Equation.lean ====
/-
# Device `c`'s result is its block of the reference's

The block that device `c` holds of an array cut along the first axis is block `c % 4`. With the table that is the roll
by `k`, the kernel gives device `c` the block of the device at position `(c % 4 + k) % 4`, and the reference has at
position `c % 4` block `(c % 4 + k) % 4` of `x`: the same one, quantised and made again alike.
-/
module

public import proofs.«01_k».proof.Proof.IdealLaunch
public import proofs.«01_k».proof.Proof.IdealRows
public import proofs.«01_k».proof.Proof.ReferenceOrder
public import Idealize.ShloMosaic.Lib.Layout

@[expose] public section

noncomputable section

namespace Cert.KernelIdeal.Shuffle

open Cert.KernelIdeal Cert.KernelIdeal.Gen
open Idealize.ShloMosaic Idealize.ShloMosaic.TcCoe

/-- A block of one row of blocks, and the whole array of four. -/
abbrev SB : Shape := ⟨3, ![1, 512, 512]⟩
abbrev SA : Shape := ⟨3, ![4, 512, 512]⟩

/-- Where the element at index `i` of device `c`'s block is in the whole array. -/
def whole (c : Dev nD) (i : SB.Idx) : SA.Idx := fun
  | 0 => (⟨c.val % 4, Nat.mod_lt _ (by decide)⟩ : Fin 4)
  | 1 => i 1
  | 2 => i 2

/-- A device's block holds at an index the whole array's element there. -/
theorem block_apply {α : Type} (c : Dev nD) (v : SA.Idx → α) (i : SB.Idx) :
    Layout.blockN SB SA (Layout.meshBlock [2, 4, 4] ![[2], [], []] c) v (by decide) i = v (whole c i) := by
  have h0 : (i 0).val < 1 := (i 0).isLt
  have hz : ∀ d : Fin 32, Layout.meshLin [2, 4, 4] d.val [2] = d.val % 4 := by decide
  rw [Layout.blockN_apply]
  refine congrArg v (funext fun a => Fin.ext ?_)
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [Layout.TilesN.idx_val]
  rcases ha with rfl | rfl | rfl
  · show Layout.meshLin [2, 4, 4] c.val [2] * 1 + (i 0).val = c.val % 4
    rw [hz c]; omega
  · show 0 * 512 + (i 1).val = (i 1).val; omega
  · show 0 * 512 + (i 2).val = (i 2).val; omega

variable (k : Fin 4) (m : (ℓ : Loc nD τ sig) → Buf (Elt Ideal) ℓ) (ρ : Dev nD → PrngReg)

/-- Where entry `l` of the row that index `i` of a block lies in is, in the block. -/
def blockRow (i : S1x512x512.Idx) (l : Fin 512) : S1x512x512.Idx := fun
  | 0 => i 0
  | 1 => i 1
  | 2 => l

/-- The row of a piece that an index of the result lies in is the block's row. -/
theorem piece_row (d : Dev nD) (i : S1x512x512.Idx) (l : Fin 512) :
    xpiece m ρ d (piece (i 1)) (rowIx (within i) l) = m ((d : Thread nD τ).loc main_arg0) (blockRow i l) := by
  show xstg m ρ d ((rx (piece (i 1))).emb (rowIx (within i) l)) = _
  rw [xstg_eq]
  refine congrArg (m ((d : Thread nD τ).loc main_arg0)) (funext fun a => Fin.ext ?_)
  have h0 : (i 0).val < 1 := (i 0).isLt
  have h1 : (i 1).val < 512 := (i 1).isLt
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · show 0 + 1 * (i 0).val = (i 0).val; omega
  · show 128 * ((i 1).val / 128) + 1 * ((i 1).val % 128) = (i 1).val; omega
  · show 0 + 1 * l.val = l.val; omega

/-- Device `c`'s result, entry by entry: the sending device's row, quantised and made again. -/
theorem outAt_entry (c : Dev nD) (i : S1x512x512.Idx) :
    outAt k m ρ c i = Cert.Entry.entry (fun l => m ((prv k c : Thread nD τ).loc main_arg0) (blockRow i l)) (i 2) := by
  show dequant (F := Ideal) (quant (xpiece m ρ (prv k c) (piece (i 1)))) (scale (xpiece m ρ (prv k c) (piece (i 1)))) (within i) = _
  rw [piece_entry]
  exact congrArg (fun row => Cert.Entry.entry row (i 2)) (funext fun l => piece_row m ρ (prv k c) i l)

/-- With the blocks cut from one array `x` and the table the roll by `k`, every device's result is its block of the
    reference's result. -/
theorem out_eq (x : FVec Ideal Cert.ReferenceIdeal.S4x512x512 .f32) (t : IVec Cert.ReferenceIdeal.S4 32)
    (hx : ∀ d : Dev nD, m ((d : Thread nD τ).loc main_arg0) = Layout.blockN SB SA (Layout.meshBlock [2, 4, 4] ![[2], [], []] d) x (by decide))
    (ht : ∀ j : Cert.ReferenceIdeal.S4.Idx, t j = BitVec.ofNat 32 (((j 0).val + (4 - k.val)) % 4)) (c : Dev nD) :
    outAt k m ρ c = Layout.blockN SB SA (Layout.meshBlock [2, 4, 4] ![[2], [], []] c) (Cert.ReferenceIdeal.Value.refOut x t) (by decide) := by
  funext i
  refine (outAt_entry k m ρ c i).trans (Eq.trans ?_ (block_apply c (Cert.ReferenceIdeal.Value.refOut x t) i).symm)
  rw [Cert.ReferenceIdeal.Value.refOut_apply k x t ht]
  refine congrArg (fun row => Cert.Entry.entry row (i 2)) (funext fun l => ?_)
  rw [hx (prv k c)]
  refine (block_apply (prv k c) x (blockRow i l)).trans (congrArg x (funext fun a => Fin.ext ?_))
  have hc : c.val < 32 := c.isLt
  have hk : k.val < 4 := k.isLt
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · show (c.val / 4 * 4 + (c.val % 4 + k.val) % 4) % 4 = (c.val % 4 + k.val) % 4; omega
  · rfl
  · rfl

end Cert.KernelIdeal.Shuffle

end
-- ==== Proof.lean ====
/-
# The claim

For each of the three rolls of the table: the kernel, at either reading of its floats, ends with its arguments
unchanged and every counter at zero; the kernel read over the extended reals leaves on every device that device's block
of the reference's result. The reference ends with its arguments unchanged and every counter at zero.
-/
module

public import proofs.«01_k».proof.Defs
public import proofs.«01_k».proof.Proof.KernelLaunch
public import proofs.«01_k».proof.Proof.KernelTable
public import proofs.«01_k».proof.Proof.IdealTable
public import proofs.«01_k».proof.Proof.Equation

@[expose] public section

noncomputable section

namespace Cert.Proof

open Idealize.ShloMosaic Idealize.ShloMosaic.TcCoe Idealize.SL.Sem

/-! ## The predicates' one shape fact: a scalar can be laid over four words -/

instance facts_1 : Cert.Pre_pi_rolled_by_1_Kernel.Facts := ⟨by decide⟩
instance facts_2 : Cert.Pre_pi_rolled_by_2_Kernel.Facts := ⟨by decide⟩
instance facts_3 : Cert.Pre_pi_rolled_by_3_Kernel.Facts := ⟨by decide⟩
instance reference_facts_1 : Cert.Pre_pi_rolled_by_1_ReferenceIdeal.Facts := ⟨by decide⟩
instance reference_facts_2 : Cert.Pre_pi_rolled_by_2_ReferenceIdeal.Facts := ⟨by decide⟩
instance reference_facts_3 : Cert.Pre_pi_rolled_by_3_ReferenceIdeal.Facts := ⟨by decide⟩

/-! ## The kernel's frames -/

/-- With the table a roll, the kernel ends with its arguments unchanged and every counter at zero. -/
theorem kernel_frame (k : Fin 4) (m : (ℓ : Loc Cert.Kernel.nD Cert.Kernel.τ Cert.Kernel.sig) → Buf (Elt Bits) ℓ) (g : Dev Cert.Kernel.nD → PrngReg)
    (hm : Cert.Kernel.Shuffle.Rolled k m) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  (θ_run Cert.Kernel.defs _ _).mono (fun _ h => ⟨fun c => ⟨(h.1 c 0).trans (Cert.Kernel.Shuffle.finalA_x k m g c), (h.1 c 1).trans (Cert.Kernel.Shuffle.finalA_table k m g c)⟩, h.2⟩)
    (Cert.Kernel.Shuffle.run_main k m g hm)

/-- The same of the kernel read over the extended reals. -/
theorem ideal_frame (k : Fin 4) (m : (ℓ : Loc Cert.KernelIdeal.nD Cert.KernelIdeal.τ Cert.KernelIdeal.sig) → Buf (Elt Ideal) ℓ) (g : Dev Cert.KernelIdeal.nD → PrngReg)
    (hm : Cert.KernelIdeal.Shuffle.Rolled k m) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c 0).trans (Cert.KernelIdeal.Shuffle.finalA_x k m g c), (h.1 c 1).trans (Cert.KernelIdeal.Shuffle.finalA_table k m g c)⟩, h.2⟩)
    (Cert.KernelIdeal.Shuffle.run_main k m g hm)

/-! ## The reference's frame -/

/-- The reference ends with its arguments unchanged and every counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩) (Cert.ReferenceIdeal.Value.run_out m g)

/-! ## The kernel's result against the reference's -/

/-- With the blocks cut from the reference's `x` and the table a roll, both runs end and every device's result is its
    block of the reference's result. -/
theorem values (k : Fin 4) (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hm : Cert.KernelIdeal.Shuffle.Rolled k m)
    (h : ∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have ht : ∀ j : Cert.ReferenceIdeal.S4.Idx, m' (((0 : Dev Cert.ReferenceIdeal.nD).tc : Thread Cert.ReferenceIdeal.nD Cert.ReferenceIdeal.τ).loc Cert.ReferenceIdeal.main_arg1) j
      = BitVec.ofNat 32 (((j 0).val + (4 - k.val)) % 4) := fun j => by
    have e := hm (0 : Dev Cert.KernelIdeal.nD) ⟨(j 0).val, (j 0).isLt⟩
    rw [(h 0).2] at e
    have hj : j = Cert.KernelIdeal.Shuffle.ix4 ⟨(j 0).val, (j 0).isLt⟩ := funext fun a => by fin_cases a; rfl
    rw [hj]
    exact e
  refine ⟨Cert.ReferenceIdeal.Value.refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ r c => ⟨?_, (r.1 c 0).trans (Cert.KernelIdeal.Shuffle.finalA_x k m g c), (r.1 c 1).trans (Cert.KernelIdeal.Shuffle.finalA_table k m g c)⟩) (Cert.KernelIdeal.Shuffle.run_main k m g hm)
    exact ((r.1 c 2).trans (Cert.KernelIdeal.Shuffle.finalA_out k m g c)).trans (Cert.KernelIdeal.Shuffle.out_eq k m g _ _ (fun d => (h d).1) ht c)
  · exact (θ_run Cert.ReferenceIdeal.defs _ _).mono (fun _ r => r 0) (Cert.ReferenceIdeal.Value.run_out m' g')

/-- Everything the test states. -/
theorem claim : Cert.Claim :=
  ⟨Cert.Kernel.Gen.facts, Cert.KernelIdeal.Gen.facts, Cert.ReferenceIdeal.Gen.facts, facts_1, facts_2, facts_3, reference_facts_1, reference_facts_2, reference_facts_3,
    fun m g h => kernel_frame 1 m g fun c i => Cert.Kernel.Shuffle.rolled_1 _ _ (h c) i,
    fun m g h => kernel_frame 2 m g fun c i => Cert.Kernel.Shuffle.rolled_2 _ _ (h c) i,
    fun m g h => kernel_frame 3 m g fun c i => Cert.Kernel.Shuffle.rolled_3 _ _ (h c) i,
    fun m g h => ideal_frame 1 m g fun c i => Cert.KernelIdeal.Shuffle.rolled_1 _ _ (h c) i,
    fun m g h => ideal_frame 2 m g fun c i => Cert.KernelIdeal.Shuffle.rolled_2 _ _ (h c) i,
    fun m g h => ideal_frame 3 m g fun c i => Cert.KernelIdeal.Shuffle.rolled_3 _ _ (h c) i,
    fun m g _ => reference_frame m g,
    fun m g _ => reference_frame m g,
    fun m g _ => reference_frame m g,
    fun m g _ => reference_frame m g,
    trivial,
    fun m g m' g' h hm => values 1 m g m' g' (fun c i => Cert.KernelIdeal.Shuffle.rolled_1 _ _ (h c) i) hm,
    fun m g m' g' h hm => values 2 m g m' g' (fun c i => Cert.KernelIdeal.Shuffle.rolled_2 _ _ (h c) i) hm,
    fun m g m' g' h hm => values 3 m g m' g' (fun c i => Cert.KernelIdeal.Shuffle.rolled_3 _ _ (h c) i) hm⟩

end Cert.Proof

end
